-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S1 : Shape := ⟨1, ![1]⟩
abbrev S4096x128 : Shape := ⟨2, ![4096, 128]⟩
abbrev S256x2048 : Shape := ⟨2, ![256, 2048]⟩
abbrev S16 : Shape := ⟨1, ![16]⟩
abbrev S_ : Shape := ⟨0, ![]⟩
abbrev S256x128 : Shape := ⟨2, ![256, 128]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .fp8e4m3⟩
  | .local _ .vmem, ⟨1, _⟩ => ⟨S4096x2048, .fp8e5m2⟩
  | .local _ .vmem, ⟨2, _⟩ => ⟨S4096x128, .f32⟩
  | .local _ .vmem, ⟨3, _⟩ => ⟨S256x2048, .bf16⟩
  | .local _ .vmem, ⟨4, _⟩ => ⟨S4096x128, .bf16⟩
  | .local _ .smem, ⟨0, _⟩ => ⟨S1, .f32⟩
  | .local _ .smem, ⟨1, _⟩ => ⟨S1, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v213 : BitVec 32 := Scalar.muli v2 c128_i32
  v213
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v215 : BitVec 32 := Scalar.muli v2 c256_i32
  v215
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v215 : BitVec 32 := Scalar.muli v2 c256_i32
  let v216 : BitVec 32 := v215
  let c0_i32_143 : BitVec 32 := 0#32
  ![v216.toNat, 0]
def k0_off2 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v213 : BitVec 32 := Scalar.muli v2 c128_i32
  let v214 : BitVec 32 := v213
  ![0, v214.toNat]
def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v219 : BitVec 32 := Scalar.addi v2 c1_i32_145
  let c16_i32_146 : BitVec 32 := 16#32
  let c0_i32_147 : BitVec 32 := 0#32
  let v220 : BitVec 1 := Scalar.cmpi .eq c16_i32_146 c0_i32_147
  let c1_i32_148 : BitVec 32 := 1#32
  let v221 : BitVec 32 := Scalar.select v220 c1_i32_148 c16_i32_146
  let v222 : BitVec 32 := Scalar.remsi v219 v221
  let c0_i32_150 : BitVec 32 := 0#32
  let v224 : BitVec 1 := Scalar.cmpi .slt v222 c0_i32_150
  let c0_i32_151 : BitVec 32 := 0#32
  let v225 : BitVec 1 := Scalar.cmpi .slt v221 c0_i32_151
  let v226 : BitVec 1 := Scalar.xori v224 v225
  let c0_i32_149 : BitVec 32 := 0#32
  let v223 : BitVec 1 := Scalar.cmpi .ne v222 c0_i32_149
  let v227 : BitVec 1 := Scalar.andi v226 v223
  let v228 : BitVec 32 := Scalar.addi v222 v221
  let v229 : BitVec 32 := Scalar.select v227 v228 v222
  let c128_i32_152 : BitVec 32 := 128#32
  let v230 : BitVec 32 := Scalar.muli v229 c128_i32_152
  v230
def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_153 : BitVec 32 := 256#32
  let v232 : BitVec 32 := Scalar.muli v2 c256_i32_153
  v232
def k0_off3 (d0 : Dev nD) (c1_i32_145 : BitVec 32) : Fin 2 → Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v219 : BitVec 32 := Scalar.addi v2 c1_i32_145
  let c16_i32_146 : BitVec 32 := 16#32
  let c0_i32_147 : BitVec 32 := 0#32
  let v220 : BitVec 1 := Scalar.cmpi .eq c16_i32_146 c0_i32_147
  let c1_i32_148 : BitVec 32 := 1#32
  let v221 : BitVec 32 := Scalar.select v220 c1_i32_148 c16_i32_146
  let v222 : BitVec 32 := Scalar.remsi v219 v221
  let c0_i32_150 : BitVec 32 := 0#32
  let v224 : BitVec 1 := Scalar.cmpi .slt v222 c0_i32_150
  let c0_i32_151 : BitVec 32 := 0#32
  let v225 : BitVec 1 := Scalar.cmpi .slt v221 c0_i32_151
  let v226 : BitVec 1 := Scalar.xori v224 v225
  let c0_i32_149 : BitVec 32 := 0#32
  let v223 : BitVec 1 := Scalar.cmpi .ne v222 c0_i32_149
  let v227 : BitVec 1 := Scalar.andi v226 v223
  let v228 : BitVec 32 := Scalar.addi v222 v221
  let v229 : BitVec 32 := Scalar.select v227 v228 v222
  let c128_i32_152 : BitVec 32 := 128#32
  let v230 : BitVec 32 := Scalar.muli v229 c128_i32_152
  let v231 : BitVec 32 := v230
  ![0, v231.toNat]
def k0_dev16 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v219 : BitVec 32 := Scalar.addi v2 c1_i32_145
  let c16_i32_146 : BitVec 32 := 16#32
  let c0_i32_147 : BitVec 32 := 0#32
  let v220 : BitVec 1 := Scalar.cmpi .eq c16_i32_146 c0_i32_147
  let c1_i32_148 : BitVec 32 := 1#32
  let v221 : BitVec 32 := Scalar.select v220 c1_i32_148 c16_i32_146
  let v222 : BitVec 32 := Scalar.remsi v219 v221
  let c0_i32_150 : BitVec 32 := 0#32
  let v224 : BitVec 1 := Scalar.cmpi .slt v222 c0_i32_150
  let c0_i32_151 : BitVec 32 := 0#32
  let v225 : BitVec 1 := Scalar.cmpi .slt v221 c0_i32_151
  let v226 : BitVec 1 := Scalar.xori v224 v225
  let c0_i32_149 : BitVec 32 := 0#32
  let v223 : BitVec 1 := Scalar.cmpi .ne v222 c0_i32_149
  let v227 : BitVec 1 := Scalar.andi v226 v223
  let v228 : BitVec 32 := Scalar.addi v222 v221
  let v229 : BitVec 32 := Scalar.select v227 v228 v222
  let c1_i32_156 : BitVec 32 := 1#32
  let v234 : BitVec 32 := Scalar.muli v229 c1_i32_156
  let v235 : BitVec 32 := Scalar.addi c0_i32_157 v234
  v235.toNat
def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_160 : BitVec 32 := 2#32
  let v242 : BitVec 32 := Scalar.addi v2 c2_i32_160
  let c16_i32_161 : BitVec 32 := 16#32
  let c0_i32_162 : BitVec 32 := 0#32
  let v243 : BitVec 1 := Scalar.cmpi .eq c16_i32_161 c0_i32_162
  let c1_i32_163 : BitVec 32 := 1#32
  let v244 : BitVec 32 := Scalar.select v243 c1_i32_163 c16_i32_161
  let v245 : BitVec 32 := Scalar.remsi v242 v244
  let c0_i32_165 : BitVec 32 := 0#32
  let v247 : BitVec 1 := Scalar.cmpi .slt v245 c0_i32_165
  let c0_i32_166 : BitVec 32 := 0#32
  let v248 : BitVec 1 := Scalar.cmpi .slt v244 c0_i32_166
  let v249 : BitVec 1 := Scalar.xori v247 v248
  let c0_i32_164 : BitVec 32 := 0#32
  let v246 : BitVec 1 := Scalar.cmpi .ne v245 c0_i32_164
  let v250 : BitVec 1 := Scalar.andi v249 v246
  let v251 : BitVec 32 := Scalar.addi v245 v244
  let v252 : BitVec 32 := Scalar.select v250 v251 v245
  let c128_i32_167 : BitVec 32 := 128#32
  let v253 : BitVec 32 := Scalar.muli v252 c128_i32_167
  v253
def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_168 : BitVec 32 := 256#32
  let v255 : BitVec 32 := Scalar.muli v2 c256_i32_168
  v255
def k0_dev17 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_160 : BitVec 32 := 2#32
  let v242 : BitVec 32 := Scalar.addi v2 c2_i32_160
  let c16_i32_161 : BitVec 32 := 16#32
  let c0_i32_162 : BitVec 32 := 0#32
  let v243 : BitVec 1 := Scalar.cmpi .eq c16_i32_161 c0_i32_162
  let c1_i32_163 : BitVec 32 := 1#32
  let v244 : BitVec 32 := Scalar.select v243 c1_i32_163 c16_i32_161
  let v245 : BitVec 32 := Scalar.remsi v242 v244
  let c0_i32_165 : BitVec 32 := 0#32
  let v247 : BitVec 1 := Scalar.cmpi .slt v245 c0_i32_165
  let c0_i32_166 : BitVec 32 := 0#32
  let v248 : BitVec 1 := Scalar.cmpi .slt v244 c0_i32_166
  let v249 : BitVec 1 := Scalar.xori v247 v248
  let c0_i32_164 : BitVec 32 := 0#32
  let v246 : BitVec 1 := Scalar.cmpi .ne v245 c0_i32_164
  let v250 : BitVec 1 := Scalar.andi v249 v246
  let v251 : BitVec 32 := Scalar.addi v245 v244
  let v252 : BitVec 32 := Scalar.select v250 v251 v245
  let c1_i32_171 : BitVec 32 := 1#32
  let v257 : BitVec 32 := Scalar.muli v252 c1_i32_171
  let v258 : BitVec 32 := Scalar.addi c0_i32_172 v257
  v258.toNat
def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_175 : BitVec 32 := 3#32
  let v265 : BitVec 32 := Scalar.addi v2 c3_i32_175
  let c16_i32_176 : BitVec 32 := 16#32
  let c0_i32_177 : BitVec 32 := 0#32
  let v266 : BitVec 1 := Scalar.cmpi .eq c16_i32_176 c0_i32_177
  let c1_i32_178 : BitVec 32 := 1#32
  let v267 : BitVec 32 := Scalar.select v266 c1_i32_178 c16_i32_176
  let v268 : BitVec 32 := Scalar.remsi v265 v267
  let c0_i32_180 : BitVec 32 := 0#32
  let v270 : BitVec 1 := Scalar.cmpi .slt v268 c0_i32_180
  let c0_i32_181 : BitVec 32 := 0#32
  let v271 : BitVec 1 := Scalar.cmpi .slt v267 c0_i32_181
  let v272 : BitVec 1 := Scalar.xori v270 v271
  let c0_i32_179 : BitVec 32 := 0#32
  let v269 : BitVec 1 := Scalar.cmpi .ne v268 c0_i32_179
  let v273 : BitVec 1 := Scalar.andi v272 v269
  let v274 : BitVec 32 := Scalar.addi v268 v267
  let v275 : BitVec 32 := Scalar.select v273 v274 v268
  let c128_i32_182 : BitVec 32 := 128#32
  let v276 : BitVec 32 := Scalar.muli v275 c128_i32_182
  v276
def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_183 : BitVec 32 := 256#32
  let v278 : BitVec 32 := Scalar.muli v2 c256_i32_183
  v278
def k0_dev18 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_175 : BitVec 32 := 3#32
  let v265 : BitVec 32 := Scalar.addi v2 c3_i32_175
  let c16_i32_176 : BitVec 32 := 16#32
  let c0_i32_177 : BitVec 32 := 0#32
  let v266 : BitVec 1 := Scalar.cmpi .eq c16_i32_176 c0_i32_177
  let c1_i32_178 : BitVec 32 := 1#32
  let v267 : BitVec 32 := Scalar.select v266 c1_i32_178 c16_i32_176
  let v268 : BitVec 32 := Scalar.remsi v265 v267
  let c0_i32_180 : BitVec 32 := 0#32
  let v270 : BitVec 1 := Scalar.cmpi .slt v268 c0_i32_180
  let c0_i32_181 : BitVec 32 := 0#32
  let v271 : BitVec 1 := Scalar.cmpi .slt v267 c0_i32_181
  let v272 : BitVec 1 := Scalar.xori v270 v271
  let c0_i32_179 : BitVec 32 := 0#32
  let v269 : BitVec 1 := Scalar.cmpi .ne v268 c0_i32_179
  let v273 : BitVec 1 := Scalar.andi v272 v269
  let v274 : BitVec 32 := Scalar.addi v268 v267
  let v275 : BitVec 32 := Scalar.select v273 v274 v268
  let c1_i32_186 : BitVec 32 := 1#32
  let v280 : BitVec 32 := Scalar.muli v275 c1_i32_186
  let v281 : BitVec 32 := Scalar.addi c0_i32_187 v280
  v281.toNat
def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_190 : BitVec 32 := 4#32
  let v288 : BitVec 32 := Scalar.addi v2 c4_i32_190
  let c16_i32_191 : BitVec 32 := 16#32
  let c0_i32_192 : BitVec 32 := 0#32
  let v289 : BitVec 1 := Scalar.cmpi .eq c16_i32_191 c0_i32_192
  let c1_i32_193 : BitVec 32 := 1#32
  let v290 : BitVec 32 := Scalar.select v289 c1_i32_193 c16_i32_191
  let v291 : BitVec 32 := Scalar.remsi v288 v290
  let c0_i32_195 : BitVec 32 := 0#32
  let v293 : BitVec 1 := Scalar.cmpi .slt v291 c0_i32_195
  let c0_i32_196 : BitVec 32 := 0#32
  let v294 : BitVec 1 := Scalar.cmpi .slt v290 c0_i32_196
  let v295 : BitVec 1 := Scalar.xori v293 v294
  let c0_i32_194 : BitVec 32 := 0#32
  let v292 : BitVec 1 := Scalar.cmpi .ne v291 c0_i32_194
  let v296 : BitVec 1 := Scalar.andi v295 v292
  let v297 : BitVec 32 := Scalar.addi v291 v290
  let v298 : BitVec 32 := Scalar.select v296 v297 v291
  let c128_i32_197 : BitVec 32 := 128#32
  let v299 : BitVec 32 := Scalar.muli v298 c128_i32_197
  v299
def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_198 : BitVec 32 := 256#32
  let v301 : BitVec 32 := Scalar.muli v2 c256_i32_198
  v301
def k0_dev19 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_190 : BitVec 32 := 4#32
  let v288 : BitVec 32 := Scalar.addi v2 c4_i32_190
  let c16_i32_191 : BitVec 32 := 16#32
  let c0_i32_192 : BitVec 32 := 0#32
  let v289 : BitVec 1 := Scalar.cmpi .eq c16_i32_191 c0_i32_192
  let c1_i32_193 : BitVec 32 := 1#32
  let v290 : BitVec 32 := Scalar.select v289 c1_i32_193 c16_i32_191
  let v291 : BitVec 32 := Scalar.remsi v288 v290
  let c0_i32_195 : BitVec 32 := 0#32
  let v293 : BitVec 1 := Scalar.cmpi .slt v291 c0_i32_195
  let c0_i32_196 : BitVec 32 := 0#32
  let v294 : BitVec 1 := Scalar.cmpi .slt v290 c0_i32_196
  let v295 : BitVec 1 := Scalar.xori v293 v294
  let c0_i32_194 : BitVec 32 := 0#32
  let v292 : BitVec 1 := Scalar.cmpi .ne v291 c0_i32_194
  let v296 : BitVec 1 := Scalar.andi v295 v292
  let v297 : BitVec 32 := Scalar.addi v291 v290
  let v298 : BitVec 32 := Scalar.select v296 v297 v291
  let c1_i32_201 : BitVec 32 := 1#32
  let v303 : BitVec 32 := Scalar.muli v298 c1_i32_201
  let v304 : BitVec 32 := Scalar.addi c0_i32_202 v303
  v304.toNat
def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_205 : BitVec 32 := 5#32
  let v311 : BitVec 32 := Scalar.addi v2 c5_i32_205
  let c16_i32_206 : BitVec 32 := 16#32
  let c0_i32_207 : BitVec 32 := 0#32
  let v312 : BitVec 1 := Scalar.cmpi .eq c16_i32_206 c0_i32_207
  let c1_i32_208 : BitVec 32 := 1#32
  let v313 : BitVec 32 := Scalar.select v312 c1_i32_208 c16_i32_206
  let v314 : BitVec 32 := Scalar.remsi v311 v313
  let c0_i32_210 : BitVec 32 := 0#32
  let v316 : BitVec 1 := Scalar.cmpi .slt v314 c0_i32_210
  let c0_i32_211 : BitVec 32 := 0#32
  let v317 : BitVec 1 := Scalar.cmpi .slt v313 c0_i32_211
  let v318 : BitVec 1 := Scalar.xori v316 v317
  let c0_i32_209 : BitVec 32 := 0#32
  let v315 : BitVec 1 := Scalar.cmpi .ne v314 c0_i32_209
  let v319 : BitVec 1 := Scalar.andi v318 v315
  let v320 : BitVec 32 := Scalar.addi v314 v313
  let v321 : BitVec 32 := Scalar.select v319 v320 v314
  let c128_i32_212 : BitVec 32 := 128#32
  let v322 : BitVec 32 := Scalar.muli v321 c128_i32_212
  v322
def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_213 : BitVec 32 := 256#32
  let v324 : BitVec 32 := Scalar.muli v2 c256_i32_213
  v324
def k0_dev20 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_205 : BitVec 32 := 5#32
  let v311 : BitVec 32 := Scalar.addi v2 c5_i32_205
  let c16_i32_206 : BitVec 32 := 16#32
  let c0_i32_207 : BitVec 32 := 0#32
  let v312 : BitVec 1 := Scalar.cmpi .eq c16_i32_206 c0_i32_207
  let c1_i32_208 : BitVec 32 := 1#32
  let v313 : BitVec 32 := Scalar.select v312 c1_i32_208 c16_i32_206
  let v314 : BitVec 32 := Scalar.remsi v311 v313
  let c0_i32_210 : BitVec 32 := 0#32
  let v316 : BitVec 1 := Scalar.cmpi .slt v314 c0_i32_210
  let c0_i32_211 : BitVec 32 := 0#32
  let v317 : BitVec 1 := Scalar.cmpi .slt v313 c0_i32_211
  let v318 : BitVec 1 := Scalar.xori v316 v317
  let c0_i32_209 : BitVec 32 := 0#32
  let v315 : BitVec 1 := Scalar.cmpi .ne v314 c0_i32_209
  let v319 : BitVec 1 := Scalar.andi v318 v315
  let v320 : BitVec 32 := Scalar.addi v314 v313
  let v321 : BitVec 32 := Scalar.select v319 v320 v314
  let c1_i32_216 : BitVec 32 := 1#32
  let v326 : BitVec 32 := Scalar.muli v321 c1_i32_216
  let v327 : BitVec 32 := Scalar.addi c0_i32_217 v326
  v327.toNat
def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_220 : BitVec 32 := 6#32
  let v334 : BitVec 32 := Scalar.addi v2 c6_i32_220
  let c16_i32_221 : BitVec 32 := 16#32
  let c0_i32_222 : BitVec 32 := 0#32
  let v335 : BitVec 1 := Scalar.cmpi .eq c16_i32_221 c0_i32_222
  let c1_i32_223 : BitVec 32 := 1#32
  let v336 : BitVec 32 := Scalar.select v335 c1_i32_223 c16_i32_221
  let v337 : BitVec 32 := Scalar.remsi v334 v336
  let c0_i32_225 : BitVec 32 := 0#32
  let v339 : BitVec 1 := Scalar.cmpi .slt v337 c0_i32_225
  let c0_i32_226 : BitVec 32 := 0#32
  let v340 : BitVec 1 := Scalar.cmpi .slt v336 c0_i32_226
  let v341 : BitVec 1 := Scalar.xori v339 v340
  let c0_i32_224 : BitVec 32 := 0#32
  let v338 : BitVec 1 := Scalar.cmpi .ne v337 c0_i32_224
  let v342 : BitVec 1 := Scalar.andi v341 v338
  let v343 : BitVec 32 := Scalar.addi v337 v336
  let v344 : BitVec 32 := Scalar.select v342 v343 v337
  let c128_i32_227 : BitVec 32 := 128#32
  let v345 : BitVec 32 := Scalar.muli v344 c128_i32_227
  v345
def k0_mult14 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_228 : BitVec 32 := 256#32
  let v347 : BitVec 32 := Scalar.muli v2 c256_i32_228
  v347
def k0_dev21 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_220 : BitVec 32 := 6#32
  let v334 : BitVec 32 := Scalar.addi v2 c6_i32_220
  let c16_i32_221 : BitVec 32 := 16#32
  let c0_i32_222 : BitVec 32 := 0#32
  let v335 : BitVec 1 := Scalar.cmpi .eq c16_i32_221 c0_i32_222
  let c1_i32_223 : BitVec 32 := 1#32
  let v336 : BitVec 32 := Scalar.select v335 c1_i32_223 c16_i32_221
  let v337 : BitVec 32 := Scalar.remsi v334 v336
  let c0_i32_225 : BitVec 32 := 0#32
  let v339 : BitVec 1 := Scalar.cmpi .slt v337 c0_i32_225
  let c0_i32_226 : BitVec 32 := 0#32
  let v340 : BitVec 1 := Scalar.cmpi .slt v336 c0_i32_226
  let v341 : BitVec 1 := Scalar.xori v339 v340
  let c0_i32_224 : BitVec 32 := 0#32
  let v338 : BitVec 1 := Scalar.cmpi .ne v337 c0_i32_224
  let v342 : BitVec 1 := Scalar.andi v341 v338
  let v343 : BitVec 32 := Scalar.addi v337 v336
  let v344 : BitVec 32 := Scalar.select v342 v343 v337
  let c1_i32_231 : BitVec 32 := 1#32
  let v349 : BitVec 32 := Scalar.muli v344 c1_i32_231
  let v350 : BitVec 32 := Scalar.addi c0_i32_232 v349
  v350.toNat
def k0_mult15 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_235 : BitVec 32 := 7#32
  let v357 : BitVec 32 := Scalar.addi v2 c7_i32_235
  let c16_i32_236 : BitVec 32 := 16#32
  let c0_i32_237 : BitVec 32 := 0#32
  let v358 : BitVec 1 := Scalar.cmpi .eq c16_i32_236 c0_i32_237
  let c1_i32_238 : BitVec 32 := 1#32
  let v359 : BitVec 32 := Scalar.select v358 c1_i32_238 c16_i32_236
  let v360 : BitVec 32 := Scalar.remsi v357 v359
  let c0_i32_240 : BitVec 32 := 0#32
  let v362 : BitVec 1 := Scalar.cmpi .slt v360 c0_i32_240
  let c0_i32_241 : BitVec 32 := 0#32
  let v363 : BitVec 1 := Scalar.cmpi .slt v359 c0_i32_241
  let v364 : BitVec 1 := Scalar.xori v362 v363
  let c0_i32_239 : BitVec 32 := 0#32
  let v361 : BitVec 1 := Scalar.cmpi .ne v360 c0_i32_239
  let v365 : BitVec 1 := Scalar.andi v364 v361
  let v366 : BitVec 32 := Scalar.addi v360 v359
  let v367 : BitVec 32 := Scalar.select v365 v366 v360
  let c128_i32_242 : BitVec 32 := 128#32
  let v368 : BitVec 32 := Scalar.muli v367 c128_i32_242
  v368
def k0_mult16 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_243 : BitVec 32 := 256#32
  let v370 : BitVec 32 := Scalar.muli v2 c256_i32_243
  v370
def k0_dev22 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_235 : BitVec 32 := 7#32
  let v357 : BitVec 32 := Scalar.addi v2 c7_i32_235
  let c16_i32_236 : BitVec 32 := 16#32
  let c0_i32_237 : BitVec 32 := 0#32
  let v358 : BitVec 1 := Scalar.cmpi .eq c16_i32_236 c0_i32_237
  let c1_i32_238 : BitVec 32 := 1#32
  let v359 : BitVec 32 := Scalar.select v358 c1_i32_238 c16_i32_236
  let v360 : BitVec 32 := Scalar.remsi v357 v359
  let c0_i32_240 : BitVec 32 := 0#32
  let v362 : BitVec 1 := Scalar.cmpi .slt v360 c0_i32_240
  let c0_i32_241 : BitVec 32 := 0#32
  let v363 : BitVec 1 := Scalar.cmpi .slt v359 c0_i32_241
  let v364 : BitVec 1 := Scalar.xori v362 v363
  let c0_i32_239 : BitVec 32 := 0#32
  let v361 : BitVec 1 := Scalar.cmpi .ne v360 c0_i32_239
  let v365 : BitVec 1 := Scalar.andi v364 v361
  let v366 : BitVec 32 := Scalar.addi v360 v359
  let v367 : BitVec 32 := Scalar.select v365 v366 v360
  let c1_i32_246 : BitVec 32 := 1#32
  let v372 : BitVec 32 := Scalar.muli v367 c1_i32_246
  let v373 : BitVec 32 := Scalar.addi c0_i32_247 v372
  v373.toNat
def k0_mult17 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_250 : BitVec 32 := 8#32
  let v380 : BitVec 32 := Scalar.addi v2 c8_i32_250
  let c16_i32_251 : BitVec 32 := 16#32
  let c0_i32_252 : BitVec 32 := 0#32
  let v381 : BitVec 1 := Scalar.cmpi .eq c16_i32_251 c0_i32_252
  let c1_i32_253 : BitVec 32 := 1#32
  let v382 : BitVec 32 := Scalar.select v381 c1_i32_253 c16_i32_251
  let v383 : BitVec 32 := Scalar.remsi v380 v382
  let c0_i32_255 : BitVec 32 := 0#32
  let v385 : BitVec 1 := Scalar.cmpi .slt v383 c0_i32_255
  let c0_i32_256 : BitVec 32 := 0#32
  let v386 : BitVec 1 := Scalar.cmpi .slt v382 c0_i32_256
  let v387 : BitVec 1 := Scalar.xori v385 v386
  let c0_i32_254 : BitVec 32 := 0#32
  let v384 : BitVec 1 := Scalar.cmpi .ne v383 c0_i32_254
  let v388 : BitVec 1 := Scalar.andi v387 v384
  let v389 : BitVec 32 := Scalar.addi v383 v382
  let v390 : BitVec 32 := Scalar.select v388 v389 v383
  let c128_i32_257 : BitVec 32 := 128#32
  let v391 : BitVec 32 := Scalar.muli v390 c128_i32_257
  v391
def k0_mult18 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_258 : BitVec 32 := 256#32
  let v393 : BitVec 32 := Scalar.muli v2 c256_i32_258
  v393
def k0_dev23 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_250 : BitVec 32 := 8#32
  let v380 : BitVec 32 := Scalar.addi v2 c8_i32_250
  let c16_i32_251 : BitVec 32 := 16#32
  let c0_i32_252 : BitVec 32 := 0#32
  let v381 : BitVec 1 := Scalar.cmpi .eq c16_i32_251 c0_i32_252
  let c1_i32_253 : BitVec 32 := 1#32
  let v382 : BitVec 32 := Scalar.select v381 c1_i32_253 c16_i32_251
  let v383 : BitVec 32 := Scalar.remsi v380 v382
  let c0_i32_255 : BitVec 32 := 0#32
  let v385 : BitVec 1 := Scalar.cmpi .slt v383 c0_i32_255
  let c0_i32_256 : BitVec 32 := 0#32
  let v386 : BitVec 1 := Scalar.cmpi .slt v382 c0_i32_256
  let v387 : BitVec 1 := Scalar.xori v385 v386
  let c0_i32_254 : BitVec 32 := 0#32
  let v384 : BitVec 1 := Scalar.cmpi .ne v383 c0_i32_254
  let v388 : BitVec 1 := Scalar.andi v387 v384
  let v389 : BitVec 32 := Scalar.addi v383 v382
  let v390 : BitVec 32 := Scalar.select v388 v389 v383
  let c1_i32_261 : BitVec 32 := 1#32
  let v395 : BitVec 32 := Scalar.muli v390 c1_i32_261
  let v396 : BitVec 32 := Scalar.addi c0_i32_262 v395
  v396.toNat
def k0_mult19 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_265 : BitVec 32 := 9#32
  let v403 : BitVec 32 := Scalar.addi v2 c9_i32_265
  let c16_i32_266 : BitVec 32 := 16#32
  let c0_i32_267 : BitVec 32 := 0#32
  let v404 : BitVec 1 := Scalar.cmpi .eq c16_i32_266 c0_i32_267
  let c1_i32_268 : BitVec 32 := 1#32
  let v405 : BitVec 32 := Scalar.select v404 c1_i32_268 c16_i32_266
  let v406 : BitVec 32 := Scalar.remsi v403 v405
  let c0_i32_270 : BitVec 32 := 0#32
  let v408 : BitVec 1 := Scalar.cmpi .slt v406 c0_i32_270
  let c0_i32_271 : BitVec 32 := 0#32
  let v409 : BitVec 1 := Scalar.cmpi .slt v405 c0_i32_271
  let v410 : BitVec 1 := Scalar.xori v408 v409
  let c0_i32_269 : BitVec 32 := 0#32
  let v407 : BitVec 1 := Scalar.cmpi .ne v406 c0_i32_269
  let v411 : BitVec 1 := Scalar.andi v410 v407
  let v412 : BitVec 32 := Scalar.addi v406 v405
  let v413 : BitVec 32 := Scalar.select v411 v412 v406
  let c128_i32_272 : BitVec 32 := 128#32
  let v414 : BitVec 32 := Scalar.muli v413 c128_i32_272
  v414
def k0_mult20 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_273 : BitVec 32 := 256#32
  let v416 : BitVec 32 := Scalar.muli v2 c256_i32_273
  v416
def k0_dev24 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_265 : BitVec 32 := 9#32
  let v403 : BitVec 32 := Scalar.addi v2 c9_i32_265
  let c16_i32_266 : BitVec 32 := 16#32
  let c0_i32_267 : BitVec 32 := 0#32
  let v404 : BitVec 1 := Scalar.cmpi .eq c16_i32_266 c0_i32_267
  let c1_i32_268 : BitVec 32 := 1#32
  let v405 : BitVec 32 := Scalar.select v404 c1_i32_268 c16_i32_266
  let v406 : BitVec 32 := Scalar.remsi v403 v405
  let c0_i32_270 : BitVec 32 := 0#32
  let v408 : BitVec 1 := Scalar.cmpi .slt v406 c0_i32_270
  let c0_i32_271 : BitVec 32 := 0#32
  let v409 : BitVec 1 := Scalar.cmpi .slt v405 c0_i32_271
  let v410 : BitVec 1 := Scalar.xori v408 v409
  let c0_i32_269 : BitVec 32 := 0#32
  let v407 : BitVec 1 := Scalar.cmpi .ne v406 c0_i32_269
  let v411 : BitVec 1 := Scalar.andi v410 v407
  let v412 : BitVec 32 := Scalar.addi v406 v405
  let v413 : BitVec 32 := Scalar.select v411 v412 v406
  let c1_i32_276 : BitVec 32 := 1#32
  let v418 : BitVec 32 := Scalar.muli v413 c1_i32_276
  let v419 : BitVec 32 := Scalar.addi c0_i32_277 v418
  v419.toNat
def k0_mult21 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_280 : BitVec 32 := 10#32
  let v426 : BitVec 32 := Scalar.addi v2 c10_i32_280
  let c16_i32_281 : BitVec 32 := 16#32
  let c0_i32_282 : BitVec 32 := 0#32
  let v427 : BitVec 1 := Scalar.cmpi .eq c16_i32_281 c0_i32_282
  let c1_i32_283 : BitVec 32 := 1#32
  let v428 : BitVec 32 := Scalar.select v427 c1_i32_283 c16_i32_281
  let v429 : BitVec 32 := Scalar.remsi v426 v428
  let c0_i32_285 : BitVec 32 := 0#32
  let v431 : BitVec 1 := Scalar.cmpi .slt v429 c0_i32_285
  let c0_i32_286 : BitVec 32 := 0#32
  let v432 : BitVec 1 := Scalar.cmpi .slt v428 c0_i32_286
  let v433 : BitVec 1 := Scalar.xori v431 v432
  let c0_i32_284 : BitVec 32 := 0#32
  let v430 : BitVec 1 := Scalar.cmpi .ne v429 c0_i32_284
  let v434 : BitVec 1 := Scalar.andi v433 v430
  let v435 : BitVec 32 := Scalar.addi v429 v428
  let v436 : BitVec 32 := Scalar.select v434 v435 v429
  let c128_i32_287 : BitVec 32 := 128#32
  let v437 : BitVec 32 := Scalar.muli v436 c128_i32_287
  v437
def k0_mult22 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_288 : BitVec 32 := 256#32
  let v439 : BitVec 32 := Scalar.muli v2 c256_i32_288
  v439
def k0_dev25 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_280 : BitVec 32 := 10#32
  let v426 : BitVec 32 := Scalar.addi v2 c10_i32_280
  let c16_i32_281 : BitVec 32 := 16#32
  let c0_i32_282 : BitVec 32 := 0#32
  let v427 : BitVec 1 := Scalar.cmpi .eq c16_i32_281 c0_i32_282
  let c1_i32_283 : BitVec 32 := 1#32
  let v428 : BitVec 32 := Scalar.select v427 c1_i32_283 c16_i32_281
  let v429 : BitVec 32 := Scalar.remsi v426 v428
  let c0_i32_285 : BitVec 32 := 0#32
  let v431 : BitVec 1 := Scalar.cmpi .slt v429 c0_i32_285
  let c0_i32_286 : BitVec 32 := 0#32
  let v432 : BitVec 1 := Scalar.cmpi .slt v428 c0_i32_286
  let v433 : BitVec 1 := Scalar.xori v431 v432
  let c0_i32_284 : BitVec 32 := 0#32
  let v430 : BitVec 1 := Scalar.cmpi .ne v429 c0_i32_284
  let v434 : BitVec 1 := Scalar.andi v433 v430
  let v435 : BitVec 32 := Scalar.addi v429 v428
  let v436 : BitVec 32 := Scalar.select v434 v435 v429
  let c1_i32_291 : BitVec 32 := 1#32
  let v441 : BitVec 32 := Scalar.muli v436 c1_i32_291
  let v442 : BitVec 32 := Scalar.addi c0_i32_292 v441
  v442.toNat
def k0_mult23 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_295 : BitVec 32 := 11#32
  let v449 : BitVec 32 := Scalar.addi v2 c11_i32_295
  let c16_i32_296 : BitVec 32 := 16#32
  let c0_i32_297 : BitVec 32 := 0#32
  let v450 : BitVec 1 := Scalar.cmpi .eq c16_i32_296 c0_i32_297
  let c1_i32_298 : BitVec 32 := 1#32
  let v451 : BitVec 32 := Scalar.select v450 c1_i32_298 c16_i32_296
  let v452 : BitVec 32 := Scalar.remsi v449 v451
  let c0_i32_300 : BitVec 32 := 0#32
  let v454 : BitVec 1 := Scalar.cmpi .slt v452 c0_i32_300
  let c0_i32_301 : BitVec 32 := 0#32
  let v455 : BitVec 1 := Scalar.cmpi .slt v451 c0_i32_301
  let v456 : BitVec 1 := Scalar.xori v454 v455
  let c0_i32_299 : BitVec 32 := 0#32
  let v453 : BitVec 1 := Scalar.cmpi .ne v452 c0_i32_299
  let v457 : BitVec 1 := Scalar.andi v456 v453
  let v458 : BitVec 32 := Scalar.addi v452 v451
  let v459 : BitVec 32 := Scalar.select v457 v458 v452
  let c128_i32_302 : BitVec 32 := 128#32
  let v460 : BitVec 32 := Scalar.muli v459 c128_i32_302
  v460
def k0_mult24 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_303 : BitVec 32 := 256#32
  let v462 : BitVec 32 := Scalar.muli v2 c256_i32_303
  v462
def k0_dev26 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_295 : BitVec 32 := 11#32
  let v449 : BitVec 32 := Scalar.addi v2 c11_i32_295
  let c16_i32_296 : BitVec 32 := 16#32
  let c0_i32_297 : BitVec 32 := 0#32
  let v450 : BitVec 1 := Scalar.cmpi .eq c16_i32_296 c0_i32_297
  let c1_i32_298 : BitVec 32 := 1#32
  let v451 : BitVec 32 := Scalar.select v450 c1_i32_298 c16_i32_296
  let v452 : BitVec 32 := Scalar.remsi v449 v451
  let c0_i32_300 : BitVec 32 := 0#32
  let v454 : BitVec 1 := Scalar.cmpi .slt v452 c0_i32_300
  let c0_i32_301 : BitVec 32 := 0#32
  let v455 : BitVec 1 := Scalar.cmpi .slt v451 c0_i32_301
  let v456 : BitVec 1 := Scalar.xori v454 v455
  let c0_i32_299 : BitVec 32 := 0#32
  let v453 : BitVec 1 := Scalar.cmpi .ne v452 c0_i32_299
  let v457 : BitVec 1 := Scalar.andi v456 v453
  let v458 : BitVec 32 := Scalar.addi v452 v451
  let v459 : BitVec 32 := Scalar.select v457 v458 v452
  let c1_i32_306 : BitVec 32 := 1#32
  let v464 : BitVec 32 := Scalar.muli v459 c1_i32_306
  let v465 : BitVec 32 := Scalar.addi c0_i32_307 v464
  v465.toNat
def k0_mult25 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_310 : BitVec 32 := 12#32
  let v472 : BitVec 32 := Scalar.addi v2 c12_i32_310
  let c16_i32_311 : BitVec 32 := 16#32
  let c0_i32_312 : BitVec 32 := 0#32
  let v473 : BitVec 1 := Scalar.cmpi .eq c16_i32_311 c0_i32_312
  let c1_i32_313 : BitVec 32 := 1#32
  let v474 : BitVec 32 := Scalar.select v473 c1_i32_313 c16_i32_311
  let v475 : BitVec 32 := Scalar.remsi v472 v474
  let c0_i32_315 : BitVec 32 := 0#32
  let v477 : BitVec 1 := Scalar.cmpi .slt v475 c0_i32_315
  let c0_i32_316 : BitVec 32 := 0#32
  let v478 : BitVec 1 := Scalar.cmpi .slt v474 c0_i32_316
  let v479 : BitVec 1 := Scalar.xori v477 v478
  let c0_i32_314 : BitVec 32 := 0#32
  let v476 : BitVec 1 := Scalar.cmpi .ne v475 c0_i32_314
  let v480 : BitVec 1 := Scalar.andi v479 v476
  let v481 : BitVec 32 := Scalar.addi v475 v474
  let v482 : BitVec 32 := Scalar.select v480 v481 v475
  let c128_i32_317 : BitVec 32 := 128#32
  let v483 : BitVec 32 := Scalar.muli v482 c128_i32_317
  v483
def k0_mult26 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_318 : BitVec 32 := 256#32
  let v485 : BitVec 32 := Scalar.muli v2 c256_i32_318
  v485
def k0_dev27 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_310 : BitVec 32 := 12#32
  let v472 : BitVec 32 := Scalar.addi v2 c12_i32_310
  let c16_i32_311 : BitVec 32 := 16#32
  let c0_i32_312 : BitVec 32 := 0#32
  let v473 : BitVec 1 := Scalar.cmpi .eq c16_i32_311 c0_i32_312
  let c1_i32_313 : BitVec 32 := 1#32
  let v474 : BitVec 32 := Scalar.select v473 c1_i32_313 c16_i32_311
  let v475 : BitVec 32 := Scalar.remsi v472 v474
  let c0_i32_315 : BitVec 32 := 0#32
  let v477 : BitVec 1 := Scalar.cmpi .slt v475 c0_i32_315
  let c0_i32_316 : BitVec 32 := 0#32
  let v478 : BitVec 1 := Scalar.cmpi .slt v474 c0_i32_316
  let v479 : BitVec 1 := Scalar.xori v477 v478
  let c0_i32_314 : BitVec 32 := 0#32
  let v476 : BitVec 1 := Scalar.cmpi .ne v475 c0_i32_314
  let v480 : BitVec 1 := Scalar.andi v479 v476
  let v481 : BitVec 32 := Scalar.addi v475 v474
  let v482 : BitVec 32 := Scalar.select v480 v481 v475
  let c1_i32_321 : BitVec 32 := 1#32
  let v487 : BitVec 32 := Scalar.muli v482 c1_i32_321
  let v488 : BitVec 32 := Scalar.addi c0_i32_322 v487
  v488.toNat
def k0_mult27 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_325 : BitVec 32 := 13#32
  let v495 : BitVec 32 := Scalar.addi v2 c13_i32_325
  let c16_i32_326 : BitVec 32 := 16#32
  let c0_i32_327 : BitVec 32 := 0#32
  let v496 : BitVec 1 := Scalar.cmpi .eq c16_i32_326 c0_i32_327
  let c1_i32_328 : BitVec 32 := 1#32
  let v497 : BitVec 32 := Scalar.select v496 c1_i32_328 c16_i32_326
  let v498 : BitVec 32 := Scalar.remsi v495 v497
  let c0_i32_330 : BitVec 32 := 0#32
  let v500 : BitVec 1 := Scalar.cmpi .slt v498 c0_i32_330
  let c0_i32_331 : BitVec 32 := 0#32
  let v501 : BitVec 1 := Scalar.cmpi .slt v497 c0_i32_331
  let v502 : BitVec 1 := Scalar.xori v500 v501
  let c0_i32_329 : BitVec 32 := 0#32
  let v499 : BitVec 1 := Scalar.cmpi .ne v498 c0_i32_329
  let v503 : BitVec 1 := Scalar.andi v502 v499
  let v504 : BitVec 32 := Scalar.addi v498 v497
  let v505 : BitVec 32 := Scalar.select v503 v504 v498
  let c128_i32_332 : BitVec 32 := 128#32
  let v506 : BitVec 32 := Scalar.muli v505 c128_i32_332
  v506
def k0_mult28 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_333 : BitVec 32 := 256#32
  let v508 : BitVec 32 := Scalar.muli v2 c256_i32_333
  v508
def k0_dev28 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_325 : BitVec 32 := 13#32
  let v495 : BitVec 32 := Scalar.addi v2 c13_i32_325
  let c16_i32_326 : BitVec 32 := 16#32
  let c0_i32_327 : BitVec 32 := 0#32
  let v496 : BitVec 1 := Scalar.cmpi .eq c16_i32_326 c0_i32_327
  let c1_i32_328 : BitVec 32 := 1#32
  let v497 : BitVec 32 := Scalar.select v496 c1_i32_328 c16_i32_326
  let v498 : BitVec 32 := Scalar.remsi v495 v497
  let c0_i32_330 : BitVec 32 := 0#32
  let v500 : BitVec 1 := Scalar.cmpi .slt v498 c0_i32_330
  let c0_i32_331 : BitVec 32 := 0#32
  let v501 : BitVec 1 := Scalar.cmpi .slt v497 c0_i32_331
  let v502 : BitVec 1 := Scalar.xori v500 v501
  let c0_i32_329 : BitVec 32 := 0#32
  let v499 : BitVec 1 := Scalar.cmpi .ne v498 c0_i32_329
  let v503 : BitVec 1 := Scalar.andi v502 v499
  let v504 : BitVec 32 := Scalar.addi v498 v497
  let v505 : BitVec 32 := Scalar.select v503 v504 v498
  let c1_i32_336 : BitVec 32 := 1#32
  let v510 : BitVec 32 := Scalar.muli v505 c1_i32_336
  let v511 : BitVec 32 := Scalar.addi c0_i32_337 v510
  v511.toNat
def k0_mult29 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_340 : BitVec 32 := 14#32
  let v518 : BitVec 32 := Scalar.addi v2 c14_i32_340
  let c16_i32_341 : BitVec 32 := 16#32
  let c0_i32_342 : BitVec 32 := 0#32
  let v519 : BitVec 1 := Scalar.cmpi .eq c16_i32_341 c0_i32_342
  let c1_i32_343 : BitVec 32 := 1#32
  let v520 : BitVec 32 := Scalar.select v519 c1_i32_343 c16_i32_341
  let v521 : BitVec 32 := Scalar.remsi v518 v520
  let c0_i32_345 : BitVec 32 := 0#32
  let v523 : BitVec 1 := Scalar.cmpi .slt v521 c0_i32_345
  let c0_i32_346 : BitVec 32 := 0#32
  let v524 : BitVec 1 := Scalar.cmpi .slt v520 c0_i32_346
  let v525 : BitVec 1 := Scalar.xori v523 v524
  let c0_i32_344 : BitVec 32 := 0#32
  let v522 : BitVec 1 := Scalar.cmpi .ne v521 c0_i32_344
  let v526 : BitVec 1 := Scalar.andi v525 v522
  let v527 : BitVec 32 := Scalar.addi v521 v520
  let v528 : BitVec 32 := Scalar.select v526 v527 v521
  let c128_i32_347 : BitVec 32 := 128#32
  let v529 : BitVec 32 := Scalar.muli v528 c128_i32_347
  v529
def k0_mult30 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_348 : BitVec 32 := 256#32
  let v531 : BitVec 32 := Scalar.muli v2 c256_i32_348
  v531
def k0_dev29 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_340 : BitVec 32 := 14#32
  let v518 : BitVec 32 := Scalar.addi v2 c14_i32_340
  let c16_i32_341 : BitVec 32 := 16#32
  let c0_i32_342 : BitVec 32 := 0#32
  let v519 : BitVec 1 := Scalar.cmpi .eq c16_i32_341 c0_i32_342
  let c1_i32_343 : BitVec 32 := 1#32
  let v520 : BitVec 32 := Scalar.select v519 c1_i32_343 c16_i32_341
  let v521 : BitVec 32 := Scalar.remsi v518 v520
  let c0_i32_345 : BitVec 32 := 0#32
  let v523 : BitVec 1 := Scalar.cmpi .slt v521 c0_i32_345
  let c0_i32_346 : BitVec 32 := 0#32
  let v524 : BitVec 1 := Scalar.cmpi .slt v520 c0_i32_346
  let v525 : BitVec 1 := Scalar.xori v523 v524
  let c0_i32_344 : BitVec 32 := 0#32
  let v522 : BitVec 1 := Scalar.cmpi .ne v521 c0_i32_344
  let v526 : BitVec 1 := Scalar.andi v525 v522
  let v527 : BitVec 32 := Scalar.addi v521 v520
  let v528 : BitVec 32 := Scalar.select v526 v527 v521
  let c1_i32_351 : BitVec 32 := 1#32
  let v533 : BitVec 32 := Scalar.muli v528 c1_i32_351
  let v534 : BitVec 32 := Scalar.addi c0_i32_352 v533
  v534.toNat
def k0_mult31 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_355 : BitVec 32 := 15#32
  let v541 : BitVec 32 := Scalar.addi v2 c15_i32_355
  let c16_i32_356 : BitVec 32 := 16#32
  let c0_i32_357 : BitVec 32 := 0#32
  let v542 : BitVec 1 := Scalar.cmpi .eq c16_i32_356 c0_i32_357
  let c1_i32_358 : BitVec 32 := 1#32
  let v543 : BitVec 32 := Scalar.select v542 c1_i32_358 c16_i32_356
  let v544 : BitVec 32 := Scalar.remsi v541 v543
  let c0_i32_360 : BitVec 32 := 0#32
  let v546 : BitVec 1 := Scalar.cmpi .slt v544 c0_i32_360
  let c0_i32_361 : BitVec 32 := 0#32
  let v547 : BitVec 1 := Scalar.cmpi .slt v543 c0_i32_361
  let v548 : BitVec 1 := Scalar.xori v546 v547
  let c0_i32_359 : BitVec 32 := 0#32
  let v545 : BitVec 1 := Scalar.cmpi .ne v544 c0_i32_359
  let v549 : BitVec 1 := Scalar.andi v548 v545
  let v550 : BitVec 32 := Scalar.addi v544 v543
  let v551 : BitVec 32 := Scalar.select v549 v550 v544
  let c128_i32_362 : BitVec 32 := 128#32
  let v552 : BitVec 32 := Scalar.muli v551 c128_i32_362
  v552
def k0_mult32 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_363 : BitVec 32 := 256#32
  let v554 : BitVec 32 := Scalar.muli v2 c256_i32_363
  v554
def k0_dev30 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_355 : BitVec 32 := 15#32
  let v541 : BitVec 32 := Scalar.addi v2 c15_i32_355
  let c16_i32_356 : BitVec 32 := 16#32
  let c0_i32_357 : BitVec 32 := 0#32
  let v542 : BitVec 1 := Scalar.cmpi .eq c16_i32_356 c0_i32_357
  let c1_i32_358 : BitVec 32 := 1#32
  let v543 : BitVec 32 := Scalar.select v542 c1_i32_358 c16_i32_356
  let v544 : BitVec 32 := Scalar.remsi v541 v543
  let c0_i32_360 : BitVec 32 := 0#32
  let v546 : BitVec 1 := Scalar.cmpi .slt v544 c0_i32_360
  let c0_i32_361 : BitVec 32 := 0#32
  let v547 : BitVec 1 := Scalar.cmpi .slt v543 c0_i32_361
  let v548 : BitVec 1 := Scalar.xori v546 v547
  let c0_i32_359 : BitVec 32 := 0#32
  let v545 : BitVec 1 := Scalar.cmpi .ne v544 c0_i32_359
  let v549 : BitVec 1 := Scalar.andi v548 v545
  let v550 : BitVec 32 := Scalar.addi v544 v543
  let v551 : BitVec 32 := Scalar.select v549 v550 v544
  let c1_i32_366 : BitVec 32 := 1#32
  let v556 : BitVec 32 := Scalar.muli v551 c1_i32_366
  let v557 : BitVec 32 := Scalar.addi c0_i32_367 v556
  v557.toNat
def k0_mult33 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_372 : BitVec 32 := 1#32
  let v566 : BitVec 32 := Scalar.subi v2 c1_i32_372
  let c16_i32_373 : BitVec 32 := 16#32
  let c0_i32_374 : BitVec 32 := 0#32
  let v567 : BitVec 1 := Scalar.cmpi .eq c16_i32_373 c0_i32_374
  let c1_i32_375 : BitVec 32 := 1#32
  let v568 : BitVec 32 := Scalar.select v567 c1_i32_375 c16_i32_373
  let v569 : BitVec 32 := Scalar.remsi v566 v568
  let c0_i32_377 : BitVec 32 := 0#32
  let v571 : BitVec 1 := Scalar.cmpi .slt v569 c0_i32_377
  let c0_i32_378 : BitVec 32 := 0#32
  let v572 : BitVec 1 := Scalar.cmpi .slt v568 c0_i32_378
  let v573 : BitVec 1 := Scalar.xori v571 v572
  let c0_i32_376 : BitVec 32 := 0#32
  let v570 : BitVec 1 := Scalar.cmpi .ne v569 c0_i32_376
  let v574 : BitVec 1 := Scalar.andi v573 v570
  let v575 : BitVec 32 := Scalar.addi v569 v568
  let v576 : BitVec 32 := Scalar.select v574 v575 v569
  let c256_i32_379 : BitVec 32 := 256#32
  let v577 : BitVec 32 := Scalar.muli v576 c256_i32_379
  v577
def k0_off4 (d0 : Dev nD) (c1_i32_372 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v566 : BitVec 32 := Scalar.subi v2 c1_i32_372
  let c16_i32_373 : BitVec 32 := 16#32
  let c0_i32_374 : BitVec 32 := 0#32
  let v567 : BitVec 1 := Scalar.cmpi .eq c16_i32_373 c0_i32_374
  let c1_i32_375 : BitVec 32 := 1#32
  let v568 : BitVec 32 := Scalar.select v567 c1_i32_375 c16_i32_373
  let v569 : BitVec 32 := Scalar.remsi v566 v568
  let c0_i32_377 : BitVec 32 := 0#32
  let v571 : BitVec 1 := Scalar.cmpi .slt v569 c0_i32_377
  let c0_i32_378 : BitVec 32 := 0#32
  let v572 : BitVec 1 := Scalar.cmpi .slt v568 c0_i32_378
  let v573 : BitVec 1 := Scalar.xori v571 v572
  let c0_i32_376 : BitVec 32 := 0#32
  let v570 : BitVec 1 := Scalar.cmpi .ne v569 c0_i32_376
  let v574 : BitVec 1 := Scalar.andi v573 v570
  let v575 : BitVec 32 := Scalar.addi v569 v568
  let v576 : BitVec 32 := Scalar.select v574 v575 v569
  let c256_i32_379 : BitVec 32 := 256#32
  let v577 : BitVec 32 := Scalar.muli v576 c256_i32_379
  let v578 : BitVec 32 := v577
  let c0_i32_384 : BitVec 32 := 0#32
  ![v578.toNat, 0]
def k0_mult34 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_387 : BitVec 32 := 2#32
  let v585 : BitVec 32 := Scalar.subi v2 c2_i32_387
  let c16_i32_388 : BitVec 32 := 16#32
  let c0_i32_389 : BitVec 32 := 0#32
  let v586 : BitVec 1 := Scalar.cmpi .eq c16_i32_388 c0_i32_389
  let c1_i32_390 : BitVec 32 := 1#32
  let v587 : BitVec 32 := Scalar.select v586 c1_i32_390 c16_i32_388
  let v588 : BitVec 32 := Scalar.remsi v585 v587
  let c0_i32_392 : BitVec 32 := 0#32
  let v590 : BitVec 1 := Scalar.cmpi .slt v588 c0_i32_392
  let c0_i32_393 : BitVec 32 := 0#32
  let v591 : BitVec 1 := Scalar.cmpi .slt v587 c0_i32_393
  let v592 : BitVec 1 := Scalar.xori v590 v591
  let c0_i32_391 : BitVec 32 := 0#32
  let v589 : BitVec 1 := Scalar.cmpi .ne v588 c0_i32_391
  let v593 : BitVec 1 := Scalar.andi v592 v589
  let v594 : BitVec 32 := Scalar.addi v588 v587
  let v595 : BitVec 32 := Scalar.select v593 v594 v588
  let c256_i32_394 : BitVec 32 := 256#32
  let v596 : BitVec 32 := Scalar.muli v595 c256_i32_394
  v596
def k0_mult35 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_402 : BitVec 32 := 3#32
  let v604 : BitVec 32 := Scalar.subi v2 c3_i32_402
  let c16_i32_403 : BitVec 32 := 16#32
  let c0_i32_404 : BitVec 32 := 0#32
  let v605 : BitVec 1 := Scalar.cmpi .eq c16_i32_403 c0_i32_404
  let c1_i32_405 : BitVec 32 := 1#32
  let v606 : BitVec 32 := Scalar.select v605 c1_i32_405 c16_i32_403
  let v607 : BitVec 32 := Scalar.remsi v604 v606
  let c0_i32_407 : BitVec 32 := 0#32
  let v609 : BitVec 1 := Scalar.cmpi .slt v607 c0_i32_407
  let c0_i32_408 : BitVec 32 := 0#32
  let v610 : BitVec 1 := Scalar.cmpi .slt v606 c0_i32_408
  let v611 : BitVec 1 := Scalar.xori v609 v610
  let c0_i32_406 : BitVec 32 := 0#32
  let v608 : BitVec 1 := Scalar.cmpi .ne v607 c0_i32_406
  let v612 : BitVec 1 := Scalar.andi v611 v608
  let v613 : BitVec 32 := Scalar.addi v607 v606
  let v614 : BitVec 32 := Scalar.select v612 v613 v607
  let c256_i32_409 : BitVec 32 := 256#32
  let v615 : BitVec 32 := Scalar.muli v614 c256_i32_409
  v615
def k0_mult36 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_417 : BitVec 32 := 4#32
  let v623 : BitVec 32 := Scalar.subi v2 c4_i32_417
  let c16_i32_418 : BitVec 32 := 16#32
  let c0_i32_419 : BitVec 32 := 0#32
  let v624 : BitVec 1 := Scalar.cmpi .eq c16_i32_418 c0_i32_419
  let c1_i32_420 : BitVec 32 := 1#32
  let v625 : BitVec 32 := Scalar.select v624 c1_i32_420 c16_i32_418
  let v626 : BitVec 32 := Scalar.remsi v623 v625
  let c0_i32_422 : BitVec 32 := 0#32
  let v628 : BitVec 1 := Scalar.cmpi .slt v626 c0_i32_422
  let c0_i32_423 : BitVec 32 := 0#32
  let v629 : BitVec 1 := Scalar.cmpi .slt v625 c0_i32_423
  let v630 : BitVec 1 := Scalar.xori v628 v629
  let c0_i32_421 : BitVec 32 := 0#32
  let v627 : BitVec 1 := Scalar.cmpi .ne v626 c0_i32_421
  let v631 : BitVec 1 := Scalar.andi v630 v627
  let v632 : BitVec 32 := Scalar.addi v626 v625
  let v633 : BitVec 32 := Scalar.select v631 v632 v626
  let c256_i32_424 : BitVec 32 := 256#32
  let v634 : BitVec 32 := Scalar.muli v633 c256_i32_424
  v634
def k0_mult37 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_432 : BitVec 32 := 5#32
  let v642 : BitVec 32 := Scalar.subi v2 c5_i32_432
  let c16_i32_433 : BitVec 32 := 16#32
  let c0_i32_434 : BitVec 32 := 0#32
  let v643 : BitVec 1 := Scalar.cmpi .eq c16_i32_433 c0_i32_434
  let c1_i32_435 : BitVec 32 := 1#32
  let v644 : BitVec 32 := Scalar.select v643 c1_i32_435 c16_i32_433
  let v645 : BitVec 32 := Scalar.remsi v642 v644
  let c0_i32_437 : BitVec 32 := 0#32
  let v647 : BitVec 1 := Scalar.cmpi .slt v645 c0_i32_437
  let c0_i32_438 : BitVec 32 := 0#32
  let v648 : BitVec 1 := Scalar.cmpi .slt v644 c0_i32_438
  let v649 : BitVec 1 := Scalar.xori v647 v648
  let c0_i32_436 : BitVec 32 := 0#32
  let v646 : BitVec 1 := Scalar.cmpi .ne v645 c0_i32_436
  let v650 : BitVec 1 := Scalar.andi v649 v646
  let v651 : BitVec 32 := Scalar.addi v645 v644
  let v652 : BitVec 32 := Scalar.select v650 v651 v645
  let c256_i32_439 : BitVec 32 := 256#32
  let v653 : BitVec 32 := Scalar.muli v652 c256_i32_439
  v653
def k0_mult38 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_447 : BitVec 32 := 6#32
  let v661 : BitVec 32 := Scalar.subi v2 c6_i32_447
  let c16_i32_448 : BitVec 32 := 16#32
  let c0_i32_449 : BitVec 32 := 0#32
  let v662 : BitVec 1 := Scalar.cmpi .eq c16_i32_448 c0_i32_449
  let c1_i32_450 : BitVec 32 := 1#32
  let v663 : BitVec 32 := Scalar.select v662 c1_i32_450 c16_i32_448
  let v664 : BitVec 32 := Scalar.remsi v661 v663
  let c0_i32_452 : BitVec 32 := 0#32
  let v666 : BitVec 1 := Scalar.cmpi .slt v664 c0_i32_452
  let c0_i32_453 : BitVec 32 := 0#32
  let v667 : BitVec 1 := Scalar.cmpi .slt v663 c0_i32_453
  let v668 : BitVec 1 := Scalar.xori v666 v667
  let c0_i32_451 : BitVec 32 := 0#32
  let v665 : BitVec 1 := Scalar.cmpi .ne v664 c0_i32_451
  let v669 : BitVec 1 := Scalar.andi v668 v665
  let v670 : BitVec 32 := Scalar.addi v664 v663
  let v671 : BitVec 32 := Scalar.select v669 v670 v664
  let c256_i32_454 : BitVec 32 := 256#32
  let v672 : BitVec 32 := Scalar.muli v671 c256_i32_454
  v672
def k0_mult39 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_462 : BitVec 32 := 7#32
  let v680 : BitVec 32 := Scalar.subi v2 c7_i32_462
  let c16_i32_463 : BitVec 32 := 16#32
  let c0_i32_464 : BitVec 32 := 0#32
  let v681 : BitVec 1 := Scalar.cmpi .eq c16_i32_463 c0_i32_464
  let c1_i32_465 : BitVec 32 := 1#32
  let v682 : BitVec 32 := Scalar.select v681 c1_i32_465 c16_i32_463
  let v683 : BitVec 32 := Scalar.remsi v680 v682
  let c0_i32_467 : BitVec 32 := 0#32
  let v685 : BitVec 1 := Scalar.cmpi .slt v683 c0_i32_467
  let c0_i32_468 : BitVec 32 := 0#32
  let v686 : BitVec 1 := Scalar.cmpi .slt v682 c0_i32_468
  let v687 : BitVec 1 := Scalar.xori v685 v686
  let c0_i32_466 : BitVec 32 := 0#32
  let v684 : BitVec 1 := Scalar.cmpi .ne v683 c0_i32_466
  let v688 : BitVec 1 := Scalar.andi v687 v684
  let v689 : BitVec 32 := Scalar.addi v683 v682
  let v690 : BitVec 32 := Scalar.select v688 v689 v683
  let c256_i32_469 : BitVec 32 := 256#32
  let v691 : BitVec 32 := Scalar.muli v690 c256_i32_469
  v691
def k0_mult40 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_477 : BitVec 32 := 8#32
  let v699 : BitVec 32 := Scalar.subi v2 c8_i32_477
  let c16_i32_478 : BitVec 32 := 16#32
  let c0_i32_479 : BitVec 32 := 0#32
  let v700 : BitVec 1 := Scalar.cmpi .eq c16_i32_478 c0_i32_479
  let c1_i32_480 : BitVec 32 := 1#32
  let v701 : BitVec 32 := Scalar.select v700 c1_i32_480 c16_i32_478
  let v702 : BitVec 32 := Scalar.remsi v699 v701
  let c0_i32_482 : BitVec 32 := 0#32
  let v704 : BitVec 1 := Scalar.cmpi .slt v702 c0_i32_482
  let c0_i32_483 : BitVec 32 := 0#32
  let v705 : BitVec 1 := Scalar.cmpi .slt v701 c0_i32_483
  let v706 : BitVec 1 := Scalar.xori v704 v705
  let c0_i32_481 : BitVec 32 := 0#32
  let v703 : BitVec 1 := Scalar.cmpi .ne v702 c0_i32_481
  let v707 : BitVec 1 := Scalar.andi v706 v703
  let v708 : BitVec 32 := Scalar.addi v702 v701
  let v709 : BitVec 32 := Scalar.select v707 v708 v702
  let c256_i32_484 : BitVec 32 := 256#32
  let v710 : BitVec 32 := Scalar.muli v709 c256_i32_484
  v710
def k0_mult41 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_492 : BitVec 32 := 9#32
  let v718 : BitVec 32 := Scalar.subi v2 c9_i32_492
  let c16_i32_493 : BitVec 32 := 16#32
  let c0_i32_494 : BitVec 32 := 0#32
  let v719 : BitVec 1 := Scalar.cmpi .eq c16_i32_493 c0_i32_494
  let c1_i32_495 : BitVec 32 := 1#32
  let v720 : BitVec 32 := Scalar.select v719 c1_i32_495 c16_i32_493
  let v721 : BitVec 32 := Scalar.remsi v718 v720
  let c0_i32_497 : BitVec 32 := 0#32
  let v723 : BitVec 1 := Scalar.cmpi .slt v721 c0_i32_497
  let c0_i32_498 : BitVec 32 := 0#32
  let v724 : BitVec 1 := Scalar.cmpi .slt v720 c0_i32_498
  let v725 : BitVec 1 := Scalar.xori v723 v724
  let c0_i32_496 : BitVec 32 := 0#32
  let v722 : BitVec 1 := Scalar.cmpi .ne v721 c0_i32_496
  let v726 : BitVec 1 := Scalar.andi v725 v722
  let v727 : BitVec 32 := Scalar.addi v721 v720
  let v728 : BitVec 32 := Scalar.select v726 v727 v721
  let c256_i32_499 : BitVec 32 := 256#32
  let v729 : BitVec 32 := Scalar.muli v728 c256_i32_499
  v729
def k0_mult42 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_507 : BitVec 32 := 10#32
  let v737 : BitVec 32 := Scalar.subi v2 c10_i32_507
  let c16_i32_508 : BitVec 32 := 16#32
  let c0_i32_509 : BitVec 32 := 0#32
  let v738 : BitVec 1 := Scalar.cmpi .eq c16_i32_508 c0_i32_509
  let c1_i32_510 : BitVec 32 := 1#32
  let v739 : BitVec 32 := Scalar.select v738 c1_i32_510 c16_i32_508
  let v740 : BitVec 32 := Scalar.remsi v737 v739
  let c0_i32_512 : BitVec 32 := 0#32
  let v742 : BitVec 1 := Scalar.cmpi .slt v740 c0_i32_512
  let c0_i32_513 : BitVec 32 := 0#32
  let v743 : BitVec 1 := Scalar.cmpi .slt v739 c0_i32_513
  let v744 : BitVec 1 := Scalar.xori v742 v743
  let c0_i32_511 : BitVec 32 := 0#32
  let v741 : BitVec 1 := Scalar.cmpi .ne v740 c0_i32_511
  let v745 : BitVec 1 := Scalar.andi v744 v741
  let v746 : BitVec 32 := Scalar.addi v740 v739
  let v747 : BitVec 32 := Scalar.select v745 v746 v740
  let c256_i32_514 : BitVec 32 := 256#32
  let v748 : BitVec 32 := Scalar.muli v747 c256_i32_514
  v748
def k0_mult43 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_522 : BitVec 32 := 11#32
  let v756 : BitVec 32 := Scalar.subi v2 c11_i32_522
  let c16_i32_523 : BitVec 32 := 16#32
  let c0_i32_524 : BitVec 32 := 0#32
  let v757 : BitVec 1 := Scalar.cmpi .eq c16_i32_523 c0_i32_524
  let c1_i32_525 : BitVec 32 := 1#32
  let v758 : BitVec 32 := Scalar.select v757 c1_i32_525 c16_i32_523
  let v759 : BitVec 32 := Scalar.remsi v756 v758
  let c0_i32_527 : BitVec 32 := 0#32
  let v761 : BitVec 1 := Scalar.cmpi .slt v759 c0_i32_527
  let c0_i32_528 : BitVec 32 := 0#32
  let v762 : BitVec 1 := Scalar.cmpi .slt v758 c0_i32_528
  let v763 : BitVec 1 := Scalar.xori v761 v762
  let c0_i32_526 : BitVec 32 := 0#32
  let v760 : BitVec 1 := Scalar.cmpi .ne v759 c0_i32_526
  let v764 : BitVec 1 := Scalar.andi v763 v760
  let v765 : BitVec 32 := Scalar.addi v759 v758
  let v766 : BitVec 32 := Scalar.select v764 v765 v759
  let c256_i32_529 : BitVec 32 := 256#32
  let v767 : BitVec 32 := Scalar.muli v766 c256_i32_529
  v767
def k0_mult44 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_537 : BitVec 32 := 12#32
  let v775 : BitVec 32 := Scalar.subi v2 c12_i32_537
  let c16_i32_538 : BitVec 32 := 16#32
  let c0_i32_539 : BitVec 32 := 0#32
  let v776 : BitVec 1 := Scalar.cmpi .eq c16_i32_538 c0_i32_539
  let c1_i32_540 : BitVec 32 := 1#32
  let v777 : BitVec 32 := Scalar.select v776 c1_i32_540 c16_i32_538
  let v778 : BitVec 32 := Scalar.remsi v775 v777
  let c0_i32_542 : BitVec 32 := 0#32
  let v780 : BitVec 1 := Scalar.cmpi .slt v778 c0_i32_542
  let c0_i32_543 : BitVec 32 := 0#32
  let v781 : BitVec 1 := Scalar.cmpi .slt v777 c0_i32_543
  let v782 : BitVec 1 := Scalar.xori v780 v781
  let c0_i32_541 : BitVec 32 := 0#32
  let v779 : BitVec 1 := Scalar.cmpi .ne v778 c0_i32_541
  let v783 : BitVec 1 := Scalar.andi v782 v779
  let v784 : BitVec 32 := Scalar.addi v778 v777
  let v785 : BitVec 32 := Scalar.select v783 v784 v778
  let c256_i32_544 : BitVec 32 := 256#32
  let v786 : BitVec 32 := Scalar.muli v785 c256_i32_544
  v786
def k0_mult45 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_552 : BitVec 32 := 13#32
  let v794 : BitVec 32 := Scalar.subi v2 c13_i32_552
  let c16_i32_553 : BitVec 32 := 16#32
  let c0_i32_554 : BitVec 32 := 0#32
  let v795 : BitVec 1 := Scalar.cmpi .eq c16_i32_553 c0_i32_554
  let c1_i32_555 : BitVec 32 := 1#32
  let v796 : BitVec 32 := Scalar.select v795 c1_i32_555 c16_i32_553
  let v797 : BitVec 32 := Scalar.remsi v794 v796
  let c0_i32_557 : BitVec 32 := 0#32
  let v799 : BitVec 1 := Scalar.cmpi .slt v797 c0_i32_557
  let c0_i32_558 : BitVec 32 := 0#32
  let v800 : BitVec 1 := Scalar.cmpi .slt v796 c0_i32_558
  let v801 : BitVec 1 := Scalar.xori v799 v800
  let c0_i32_556 : BitVec 32 := 0#32
  let v798 : BitVec 1 := Scalar.cmpi .ne v797 c0_i32_556
  let v802 : BitVec 1 := Scalar.andi v801 v798
  let v803 : BitVec 32 := Scalar.addi v797 v796
  let v804 : BitVec 32 := Scalar.select v802 v803 v797
  let c256_i32_559 : BitVec 32 := 256#32
  let v805 : BitVec 32 := Scalar.muli v804 c256_i32_559
  v805
def k0_mult46 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_567 : BitVec 32 := 14#32
  let v813 : BitVec 32 := Scalar.subi v2 c14_i32_567
  let c16_i32_568 : BitVec 32 := 16#32
  let c0_i32_569 : BitVec 32 := 0#32
  let v814 : BitVec 1 := Scalar.cmpi .eq c16_i32_568 c0_i32_569
  let c1_i32_570 : BitVec 32 := 1#32
  let v815 : BitVec 32 := Scalar.select v814 c1_i32_570 c16_i32_568
  let v816 : BitVec 32 := Scalar.remsi v813 v815
  let c0_i32_572 : BitVec 32 := 0#32
  let v818 : BitVec 1 := Scalar.cmpi .slt v816 c0_i32_572
  let c0_i32_573 : BitVec 32 := 0#32
  let v819 : BitVec 1 := Scalar.cmpi .slt v815 c0_i32_573
  let v820 : BitVec 1 := Scalar.xori v818 v819
  let c0_i32_571 : BitVec 32 := 0#32
  let v817 : BitVec 1 := Scalar.cmpi .ne v816 c0_i32_571
  let v821 : BitVec 1 := Scalar.andi v820 v817
  let v822 : BitVec 32 := Scalar.addi v816 v815
  let v823 : BitVec 32 := Scalar.select v821 v822 v816
  let c256_i32_574 : BitVec 32 := 256#32
  let v824 : BitVec 32 := Scalar.muli v823 c256_i32_574
  v824
def k0_mult47 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_582 : BitVec 32 := 15#32
  let v832 : BitVec 32 := Scalar.subi v2 c15_i32_582
  let c16_i32_583 : BitVec 32 := 16#32
  let c0_i32_584 : BitVec 32 := 0#32
  let v833 : BitVec 1 := Scalar.cmpi .eq c16_i32_583 c0_i32_584
  let c1_i32_585 : BitVec 32 := 1#32
  let v834 : BitVec 32 := Scalar.select v833 c1_i32_585 c16_i32_583
  let v835 : BitVec 32 := Scalar.remsi v832 v834
  let c0_i32_587 : BitVec 32 := 0#32
  let v837 : BitVec 1 := Scalar.cmpi .slt v835 c0_i32_587
  let c0_i32_588 : BitVec 32 := 0#32
  let v838 : BitVec 1 := Scalar.cmpi .slt v834 c0_i32_588
  let v839 : BitVec 1 := Scalar.xori v837 v838
  let c0_i32_586 : BitVec 32 := 0#32
  let v836 : BitVec 1 := Scalar.cmpi .ne v835 c0_i32_586
  let v840 : BitVec 1 := Scalar.andi v839 v836
  let v841 : BitVec 32 := Scalar.addi v835 v834
  let v842 : BitVec 32 := Scalar.select v840 v841 v835
  let c256_i32_589 : BitVec 32 := 256#32
  let v843 : BitVec 32 := Scalar.muli v842 c256_i32_589
  v843
abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Blocks.lean ====
/-
The ring of sixteen devices, the blocks the transfers move, and the contents of the two scratch buffers.

A device `c` computes a `256 × 2048` product `y` in its first scratch buffer and sends column block `e` of it
(128 columns) to row block `c` (256 rows) of device `e`'s second scratch buffer, the stage. Here are the column
blocks of `y` and the row blocks of the stage as memrefs, that each family cuts its buffer into disjoint pieces
covering it, and `stageAt`: what the stage of a device holds once every block has arrived.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Hops around the ring -/

set_option backward.proofsInPublic true in
/-- The device `r + 1` places after `c`. -/
def ahead (r : Fin 15) (c : Dev nD) : Dev nD := ⟨(c.val + 1 + r.val) % 16, Nat.mod_lt _ (by decide)⟩
set_option backward.proofsInPublic true in
/-- The device `r + 1` places before `c`. -/
def behind (r : Fin 15) (c : Dev nD) : Dev nD := ⟨(c.val + 15 - r.val) % 16, Nat.mod_lt _ (by decide)⟩

theorem behind_ahead (r : Fin 15) (c : Dev nD) : behind r (ahead r c) = c := by revert r c; decide +kernel
theorem ahead_behind (r : Fin 15) (c : Dev nD) : ahead r (behind r c) = c := by revert r c; decide +kernel
/-- Going `r + 1` places forward is going `15 - r` places back. -/
theorem behind_rev (r : Fin 15) (c : Dev nD) : behind r.rev c = ahead r c := by revert r c; decide +kernel
theorem ahead_ne (r : Fin 15) (c : Dev nD) : ahead r c ≠ c := by revert r c; decide +kernel

/-- The ring turned by `r + 1` places. -/
def turn (r : Fin 15) : Dev nD ≃ Dev nD := ⟨ahead r, behind r, behind_ahead r, ahead_behind r⟩

/-- The device `c` and the fifteen others, counted forward from it. -/
def others (c : Dev nD) : Unit ⊕ Fin 15 → Dev nD := Sum.elim (fun _ => c) fun r => ahead r c
/-- The same, counted backward. -/
def othersBack (c : Dev nD) : Unit ⊕ Fin 15 → Dev nD := Sum.elim (fun _ => c) fun r => behind r c

theorem others_bijective (c : Dev nD) : Function.Bijective (others c) := by
  rw [Fintype.bijective_iff_surjective_and_card]
  exact ⟨by revert c; decide +kernel, by decide⟩
theorem othersBack_bijective (c : Dev nD) : Function.Bijective (othersBack c) := by
  rw [Fintype.bijective_iff_surjective_and_card]
  exact ⟨by revert c; decide +kernel, by decide⟩

/-- The hops in the order the kernel makes them. -/
def hops : List (Fin 15) := [0, 1, 2, 3, 4, 5, 6, 7, 8, 9, 10, 11, 12, 13, 14]
theorem hops_nodup : hops.Nodup := by decide
theorem hops_all : hops.toFinset = Finset.univ := by decide

/-! ## The memrefs -/

abbrev xM : Memref sig .tc .vmem S256x4096 .fp8e4m3 := Memref.whole cc0_stg0_0
abbrev wM : Memref sig .tc .vmem S4096x2048 .fp8e5m2 := Memref.whole cc0_stg1_0
abbrev axM : Memref sig .tc .smem S1 .f32 := Memref.whole cc0_stg2_0
abbrev awM : Memref sig .tc .smem S1 .f32 := Memref.whole cc0_stg3_0
abbrev oM : Memref sig .tc .vmem S4096x128 .f32 := Memref.whole cc0_stg4_0
/-- The product's buffer and the stage. -/
abbrev yM : Memref sig .tc .vmem S256x2048 .bf16 := Memref.whole cc0_scratch0
abbrev sM : Memref sig .tc .vmem S4096x128 .bf16 := Memref.whole cc0_scratch1

abbrev yLoc (c : Dev nD) : Loc nD τ sig := (c : Thread nD τ).loc cc0_scratch0
abbrev sLoc (c : Dev nD) : Loc nD τ sig := (c : Thread nD τ).loc cc0_scratch1

/-! ## The blocks -/

theorem col_inb (e : Dev nD) : ∀ a, (![0, 128 * e.val] : Fin 2 → Nat) a + S256x128.size a ≤ S256x2048.size a := by
  revert e; decide
theorem row_inb (e : Dev nD) : ∀ a, (![256 * e.val, 0] : Fin 2 → Nat) a + S256x128.size a ≤ S4096x128.size a := by
  revert e; decide

/-- The columns of `y` meant for device `e`. -/
abbrev colRect (e : Dev nD) : Rect S256x2048 := Rect.unit (s := S256x2048) ![0, 128 * e.val] S256x128.size (col_inb e)
/-- The rows of a stage meant for device `e`'s block. -/
abbrev rowRect (e : Dev nD) : Rect S4096x128 := Rect.unit (s := S4096x128) ![256 * e.val, 0] S256x128.size (row_inb e)

abbrev colBlk (e : Dev nD) : Memref sig .tc .vmem S256x128 .bf16 := yM.slice (colRect e) (fun _ => rfl)
abbrev rowBlk (e : Dev nD) : Memref sig .tc .vmem S256x128 .bf16 := sM.slice (rowRect e) (fun _ => rfl)

/-- The elements of a column block and of a row block. -/
abbrev cols (e : Dev nD) : Finset S256x2048.Idx := (colRect e).set
abbrev rows (e : Dev nD) : Finset S4096x128.Idx := (rowRect e).set

theorem colBlk_set (e : Dev nD) : (colBlk e).view.set = cols e := View.set_slice_whole _ _
theorem rowBlk_set (e : Dev nD) : (rowBlk e).view.set = rows e := View.set_slice_whole _ _

theorem cols_disjoint (e e' : Dev nD) (h : e ≠ e') : Disjoint (cols e) (cols e') :=
  Rect.unit_disjoint 1 (by
    have : e.val ≠ e'.val := fun h' => h (Fin.ext h')
    show 128 * e.val + 128 ≤ 128 * e'.val ∨ 128 * e'.val + 128 ≤ 128 * e.val
    omega)
theorem rows_disjoint (e e' : Dev nD) (h : e ≠ e') : Disjoint (rows e) (rows e') :=
  Rect.unit_disjoint 0 (by
    have : e.val ≠ e'.val := fun h' => h (Fin.ext h')
    show 256 * e.val + 256 ≤ 256 * e'.val ∨ 256 * e'.val + 256 ≤ 256 * e.val
    omega)

/-- The device whose block holds row `i 0` of a stage. -/
def rowDev (i : S4096x128.Idx) : Dev nD := ⟨(i 0).val / 256, by have := (i 0).isLt; show _ < 16; change (i 0).val < 4096 at this; omega⟩
/-- The device whose block holds column `i 1` of `y`. -/
def colDev (i : S256x2048.Idx) : Dev nD := ⟨(i 1).val / 128, by have := (i 1).isLt; show _ < 16; change (i 1).val < 2048 at this; omega⟩

theorem mem_cols (i : S256x2048.Idx) : i ∈ cols (colDev i) := by
  rw [Rect.mem_set_unit]
  intro a
  match a with
  | 0 => exact ⟨Nat.zero_le _, by show (i 0).val < 0 + 256; have := (i 0).isLt; change (i 0).val < 256 at this; omega⟩
  | 1 => show 128 * ((i 1).val / 128) ≤ (i 1).val ∧ (i 1).val < 128 * ((i 1).val / 128) + 128; omega
theorem mem_rows (i : S4096x128.Idx) : i ∈ rows (rowDev i) := by
  rw [Rect.mem_set_unit]
  intro a
  match a with
  | 0 => show 256 * ((i 0).val / 256) ≤ (i 0).val ∧ (i 0).val < 256 * ((i 0).val / 256) + 256; omega
  | 1 => exact ⟨Nat.zero_le _, by show (i 1).val < 0 + 128; have := (i 1).isLt; change (i 1).val < 128 at this; omega⟩

/-! ## The offsets the kernel computes -/

theorem off3_eq (c : Dev nD) (r : Fin 15) : k0_off3 c (BitVec.ofNat 32 (1 + r.val)) = ![0, 128 * (ahead r c).val] := by
  revert c r; decide +kernel

/-! ## Contents -/

/-- Where element `i` of the stage of device `c` comes from: in the product of device `rowDev i`. -/
def srcIdx (c : Dev nD) (i : S4096x128.Idx) : S256x2048.Idx :=
  Fin.cons (⟨(i 0).val % 256, Nat.mod_lt _ (by decide)⟩ : Fin 256)
    (Fin.cons (⟨128 * c.val + (i 1).val, by
      have h1 := (i 1).isLt; have h2 := c.isLt; change (i 1).val < 128 at h1; change c.val < 16 at h2; show _ < 2048; omega⟩ : Fin 2048)
      (fun a : Fin 0 => a.elim0))

/-- The stage of device `c` once every device's block of its product `y` has arrived. -/
def stageAt (y : Dev nD → Vec F S256x2048 .bf16) (c : Dev nD) : Vec F S4096x128 .bf16 := fun i => y (rowDev i) (srcIdx c i)

theorem rowDev_emb (e : Dev nD) (j : S256x128.Idx) : rowDev ((rowRect e).emb j) = e := by
  apply Fin.ext
  show ((rowRect e).emb j 0).val / 256 = e.val
  rw [Rect.emb_apply]
  show (256 * e.val + 1 * (j 0).val) / 256 = e.val
  have := (j 0).isLt
  change (j 0).val < 256 at this
  omega

theorem srcIdx_emb (c e : Dev nD) (j : S256x128.Idx) : srcIdx c ((rowRect e).emb j) = (colRect c).emb j := by
  funext a
  apply Fin.ext
  rw [Rect.emb_apply]
  match a with
  | 0 =>
    show ((rowRect e).emb j 0).val % 256 = 0 + 1 * (j 0).val
    rw [Rect.emb_apply]
    show (256 * e.val + 1 * (j 0).val) % 256 = 0 + 1 * (j 0).val
    have := (j 0).isLt
    change (j 0).val < 256 at this
    omega
  | 1 =>
    show 128 * c.val + ((rowRect e).emb j 1).val = 128 * c.val + 1 * (j 1).val
    rw [Rect.emb_apply]
    show 128 * c.val + (0 + 1 * (j 1).val) = 128 * c.val + 1 * (j 1).val
    omega

/-- A column block of device `e`'s product, written over row block `e` of the stage of device `c`, is the final
    stage there: whatever the stage held. -/
theorem landed_eq (y : Dev nD → Vec F S256x2048 .bf16) (c e : Dev nD) (fd : Vec F S4096x128 .bf16) :
    ∀ i ∈ (rowBlk e).view.set, (rowBlk e).view.write (Elt F) fd ((colBlk c).view.read (Elt F) (y e)) Finset.univ i = stageAt y c i := by
  intro i hi
  obtain ⟨j, -, rfl⟩ := Finset.mem_map.mp hi
  refine (View.write_emb_of_mem (v := (rowBlk e).view) fd _ (Finset.mem_univ j)).trans ?_
  show y e ((colRect c).emb j) = y (rowDev ((rowRect e).emb j)) (srcIdx c ((rowRect e).emb j))
  rw [rowDev_emb, srcIdx_emb]

end Cert.Exchange

end
-- ==== Proof.Protocol.lean ====
/-
The protocol the sixteen devices follow, as a schedule over semaphore cells.

Each device first signals the barrier semaphore of the fifteen others and waits for fifteen units on its own. The
signal a device sends `r + 1` places ahead hands over its own stage rows meant for that device, so a device past its
barrier wait may write its rows of every other stage. Every semaphore is used for one round: the barrier for fifteen
units, each send, receive and copy semaphore for the credit of one block. Here are the cells, what each landing hands
over, what each device owes at launch, and why no wait can be part of a cycle (the levels).
-/
module

public import proofs.«01_k».proof.Proof.Blocks

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The ghost algebra: the pipeline's rounds and the exchange's -/

abbrev UX : Type := URounds (GSem nD τ sig) (Fin 15)
abbrev UU : Type := UR sig nD τ × UX

variable {F : FTy → Type} [FloatOps F]

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The semaphores -/

/-- The barrier semaphore of the runtime. -/
abbrev barS : Sem sig := (SemArray.scalar (sig.barrier 0 rfl) : Sems sig S_).sem

theorem sem_inb (r : Fin 15) : ∀ a, (![1 + r.val] : Fin 1 → Nat) a + S1.size a ≤ S16.size a := by revert r; decide

/-- The send and receive semaphore of hop `r`, and the semaphore of the local copy. -/
abbrev sendS (r : Fin 15) : DmaSem sig :=
  ((cc0_scratch2.slice (Rect.unit (s := S16) ![1 + r.val] S1.size (sem_inb r))).squeeze S_ squeezes_S1_S_).sem
abbrev recvS (r : Fin 15) : DmaSem sig :=
  ((cc0_scratch3.slice (Rect.unit (s := S16) ![1 + r.val] S1.size (sem_inb r))).squeeze S_ squeezes_S1_S_).sem
abbrev copyS : DmaSem sig := cc0_scratch4.sem

/-- The first of each row of sixteen, which no hop uses. -/
abbrev idleA : DmaSem sig := ⟨5, by decide⟩
abbrev idleB : DmaSem sig := ⟨21, by decide⟩

/-- What a semaphore is for. -/
inductive Role where
  | bar
  | send (r : Fin 15)
  | recv (r : Fin 15)
  | copy
  | idle
deriving DecidableEq

/-- The role of each semaphore, by its place in the signature. -/
def role : SemLoc sig → Role
  | .reg s => if s = barS then .bar else .idle
  | .dma q =>
    if h : 6 ≤ q.val ∧ q.val < 21 then .send ⟨q.val - 6, by omega⟩
    else if h : 22 ≤ q.val ∧ q.val < 37 then .recv ⟨q.val - 22, by omega⟩
    else if q.val = 37 then .copy else .idle

theorem role_bar : role (.reg barS) = .bar := by decide +kernel
theorem role_send (r : Fin 15) : role (.dma (sendS r)) = .send r := by revert r; decide +kernel
theorem role_recv (r : Fin 15) : role (.dma (recvS r)) = .recv r := by revert r; decide +kernel
theorem role_idleA : role (.dma idleA) = .idle := by decide +kernel
theorem role_idleB : role (.dma idleB) = .idle := by decide +kernel
theorem role_copy : role (.dma copyS) = .copy := by decide +kernel

/-- A device's own semaphores: sends, receives, the copy's and the two no hop uses. -/
abbrev Slot : Type := Fin 15 ⊕ Fin 15 ⊕ Fin 3
set_option backward.proofsInPublic true in
def osem : Slot → SemLoc sig
  | .inl r => .dma (sendS r)
  | .inr (.inl r) => .dma (recvS r)
  | .inr (.inr 0) => .dma copyS
  | .inr (.inr 1) => .dma idleA
  | .inr (.inr 2) => .dma idleB

/-- All of its cells: those and the barrier's. -/
abbrev Cel : Type := Unit ⊕ Slot
def csem : Cel → SemLoc sig := Sum.elim (fun _ => .reg barS) osem
abbrev kcell (ck : Dev nD × Cel) : GSem nD τ sig := ((ck.1 : Thread nD τ), csem ck.2)

abbrev barCell (c : Dev nD) : GSem nD τ sig := ((c : Thread nD τ), .reg barS)
abbrev sendCell (c : Dev nD) (r : Fin 15) : GSem nD τ sig := ((c : Thread nD τ), .dma (sendS r))
abbrev recvCell (c : Dev nD) (r : Fin 15) : GSem nD τ sig := ((c : Thread nD τ), .dma (recvS r))
abbrev copyCell (c : Dev nD) : GSem nD τ sig := ((c : Thread nD τ), .dma copyS)

/-- The credit of one block. -/
abbrev N : ℕ := (rowBlk 0).view.dmaCredit
theorem N_pos : 0 < N := View.dmaCredit_pos _ (by decide)

/-! ## The schedule -/

section Schedule

variable (y : Dev nD → Vec F S256x2048 .bf16)

/-- The rows for device `e` of the stage of device `c`, holding `f` there; the columns for `e` of the product of `c`. -/
def rowPts (c e : Dev nD) (f : Vec F S4096x128 .bf16) : sProp 𝕄 :=
  (rowBlk e).view.loc (c : Thread nD τ) ↦[(rowBlk e).view.set]{fullShare} f
def colPts (c e : Dev nD) : sProp 𝕄 :=
  (colBlk e).view.loc (c : Thread nD τ) ↦[(colBlk e).view.set]{fullShare} (y c)

instance rowPts_storable (c e : Dev nD) (f : Vec F S4096x128 .bf16) : BI.Storable (upEmb : UEmb _ 𝕄) (rowPts c e f) := by
  unfold rowPts; infer_instance
instance colPts_storable (c e : Dev nD) : BI.Storable (upEmb : UEmb _ 𝕄) (colPts y c e) := by unfold colPts; infer_instance

/-- What the landing of duty `d` hands the owner `c` of a cell: at the barrier, its rows of the stage of the device
    `d + 1` places behind; at a receive, its stage rows holding the sender's block; at a send, its columns back; at the
    copy, both. -/
def pay (c : Dev nD) (d : Fin 15) : Role → sProp 𝕄
  | .bar => iprop(∃ f, rowPts (behind d c) c f)
  | .send r => colPts y c (ahead r c)
  | .recv r => rowPts c (behind r c) (stageAt y c)
  | .copy => iprop(rowPts c c (stageAt y c) ∗ colPts y c c)
  | .idle => iprop(emp)

theorem pay_bar (c : Dev nD) (d : Fin 15) : pay y c d .bar = iprop(∃ f, rowPts (behind d c) c f) := rfl
theorem pay_send (c : Dev nD) (d r : Fin 15) : pay y c d (.send r) = colPts y c (ahead r c) := rfl
theorem pay_recv (c : Dev nD) (d r : Fin 15) : pay y c d (.recv r) = rowPts c (behind r c) (stageAt y c) := rfl
theorem pay_copy (c : Dev nD) (d : Fin 15) : pay y c d .copy = iprop(rowPts c c (stageAt y c) ∗ colPts y c c) := rfl

instance pay_storable (c : Dev nD) (d : Fin 15) (k : Role) : BI.Storable (upEmb : UEmb _ 𝕄) (pay y c d k) := by
  cases k <;> (unfold pay; infer_instance)

/-- The duties of one round: fifteen at a barrier, one elsewhere. -/
def dutiesOf : Role → Finset (Fin 15)
  | .bar => Finset.univ
  | .idle => ∅
  | _ => {0}

def amountOf : Role → ℕ
  | .bar => 1
  | _ => N

/-- One round on every cell. -/
def sched : Rounds.Schedule (GSem nD τ sig) (Fin 15) 𝕄 where
  duties g r := if r = 0 ∧ g.1.2 = .tc then dutiesOf (role g.2) else ∅
  unitless _ := False
  amount g _ _ := amountOf (role g.2)
  payload g _ d := pay y g.1.1 d (role g.2)
  amount_pos g _ _ _ := by
    generalize role g.2 = k
    cases k <;> first | exact Nat.one_pos | exact N_pos

instance sched_storable (g : GSem nD τ sig) (r : ℕ) (d : Fin 15) :
    BI.Storable (upEmb : UEmb _ 𝕄) ((sched (F := F) y).payload g r d) := pay_storable y _ _ _

theorem duties_first (c : Dev nD) (s : SemLoc sig) : (sched (F := F) y).duties ((c : Thread nD τ), s) 0 = dutiesOf (role s) := by
  dsimp only [sched]; exact if_pos ⟨rfl, rfl⟩
theorem duties_later (g : GSem nD τ sig) : ∀ r, 1 ≤ r → (sched (F := F) y).duties g r = ∅ :=
  fun r hr => by dsimp only [sched]; exact if_neg fun h => by omega
theorem duties_idle (c : Dev nD) (s : SemLoc sig) (h : role s = .idle) :
    ∀ r, 0 ≤ r → (sched (F := F) y).duties ((c : Thread nD τ), s) r = ∅ := fun r _ => by
  show (if r = 0 ∧ _ then dutiesOf (role s) else ∅) = ∅
  rw [h]; split <;> rfl
theorem amount_at (c : Dev nD) (s : SemLoc sig) (d : Fin 15) : (sched (F := F) y).amount ((c : Thread nD τ), s) 0 d = amountOf (role s) := rfl
theorem payload_at (c : Dev nD) (s : SemLoc sig) (d : Fin 15) : (sched (F := F) y).payload ((c : Thread nD τ), s) 0 d = pay y c d (role s) := rfl

theorem expect_at (c : Dev nD) (s : SemLoc sig) :
    (sched (F := F) y).expect ((c : Thread nD τ), s) 0 = (dutiesOf (role s)).card * amountOf (role s) := by
  unfold Schedule.expect Schedule.amountOf
  rw [duties_first, Finset.sum_congr rfl fun d _ => amount_at y c s d, Finset.sum_const, smul_eq_mul]
theorem expect_bar (c : Dev nD) : (sched (F := F) y).expect (barCell c) 0 = 15 := by rw [expect_at, role_bar]; rfl
theorem expect_one (c : Dev nD) (s : SemLoc sig) (h : dutiesOf (role s) = {0}) (h' : amountOf (role s) = N) :
    (sched (F := F) y).expect ((c : Thread nD τ), s) 0 = N := by rw [expect_at, h, h', Finset.card_singleton, Nat.one_mul]

theorem rest_at (c : Dev nD) (s : SemLoc sig) :
    bigSep ((sched (F := F) y).duties ((c : Thread nD τ), s) 0 \ ∅) (fun d => (sched (F := F) y).payload ((c : Thread nD τ), s) 0 d)
      = bigSep (dutiesOf (role s)) fun d => pay y c d (role s) := by
  rw [Finset.sdiff_empty, duties_first]; rfl
theorem rest_bar (c : Dev nD) :
    bigSep ((sched (F := F) y).duties (barCell c) 0 \ ∅) (fun d => (sched (F := F) y).payload (barCell c) 0 d)
      = bigSep Finset.univ fun d : Fin 15 => iprop(∃ f, rowPts (behind d c) c f) := by rw [rest_at, role_bar]; rfl
theorem rest_one (c : Dev nD) (s : SemLoc sig) (h : dutiesOf (role s) = {0}) :
    bigSep ((sched (F := F) y).duties ((c : Thread nD τ), s) 0 \ ∅) (fun d => (sched (F := F) y).payload ((c : Thread nD τ), s) 0 d)
      = pay y c 0 (role s) := by rw [rest_at, h, bigSep_singleton]

end Schedule

/-! ## What each device owes at launch -/

/-- A block's credit on the receive cell of each device ahead; a unit on the barrier cell of each. -/
def dueRecv (c : Dev nD) (r : Fin 15) : CellTallies nD τ sig Unit := tallyAt (recvCell (ahead r c) r) () N
def dueBar (c : Dev nD) (r : Fin 15) : CellTallies nD τ sig Unit := tallyAt (barCell (ahead r c)) () 1
def O₁ (c : Dev nD) : CellTallies nD τ sig Unit := ∑ r, dueRecv c r
def O₀ (c : Dev nD) : CellTallies nD τ sig Unit := O₁ c + ∑ r, dueBar c r

def L (g : GSem nD τ sig) : Finset Unit := if g.1.2 = .tc then {()} else ∅
theorem L_of_ne (g : GSem nD τ sig) (h : g.1.2 ≠ .tc) : L g = ∅ := if_neg h
theorem L_tc (c : Dev nD) (s : SemLoc sig) : L ((c : Thread nD τ), s) = {()} := if_pos rfl

/-- Barrier cells at 1, receive cells at 2, everything else at 0. -/
def level : Role → ℕ
  | .bar => 1
  | .recv _ => 2
  | _ => 0
def lv (g : GSem nD τ sig) (_ : Unit) : ℕ := level (role g.2)

theorem sum_tally_apply {ι : Type} (S : Finset ι) (t : ι → CellTallies nD τ sig Unit) (g : GSem nD τ sig) (u : Unit) :
    (∑ r ∈ S, t r) g u = ∑ r ∈ S, t r g u := by
  rw [Finset.sum_apply, Finsupp.finset_sum_apply]

theorem tally_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

theorem O₁_pos {c : Dev nD} {g : GSem nD τ sig} {u : Unit} (h : 0 < O₁ c g u) : ∃ r, g = recvCell (ahead r c) r := by
  unfold O₁ at h
  rw [sum_tally_apply] at h
  obtain ⟨r, -, hr⟩ := Finset.exists_ne_zero_of_sum_ne_zero (Nat.pos_iff_ne_zero.mp h)
  exact ⟨r, tally_pos (Nat.pos_of_ne_zero hr)⟩

theorem O₀_pos {c : Dev nD} {g : GSem nD τ sig} {u : Unit} (h : 0 < O₀ c g u) :
    (∃ r, g = recvCell (ahead r c) r) ∨ ∃ r, g = barCell (ahead r c) := by
  unfold O₀ at h
  rw [Pi.add_apply, Finsupp.add_apply, sum_tally_apply] at h
  rcases Nat.add_pos_iff_pos_or_pos.mp h with h | h
  · exact .inl (O₁_pos h)
  · obtain ⟨r, -, hr⟩ := Finset.exists_ne_zero_of_sum_ne_zero (Nat.pos_iff_ne_zero.mp h)
    exact .inr ⟨r, tally_pos (Nat.pos_of_ne_zero hr)⟩

/-- A device may wait, owing what it owes at launch, on any cell of level 0. -/
theorem mayWait_low (c : Dev nD) (s : SemLoc sig) (hs : level (role s) = 0) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by rw [Finset.mem_singleton.mp hp]; exact Nat.le_of_eq hs)
      (fun g u hg => by
        rcases O₀_pos hg with ⟨r, rfl⟩ | ⟨r, rfl⟩
        · show 0 < level (role (.dma (recvS r))); rw [role_recv]; exact Nat.lt_of_sub_ne_zero nofun
        · show 0 < level (role (.reg barS)); rw [role_bar]; decide)
  · rw [MayWait_zero]; iintro -; iempintro

/-- At its barrier wait a device owes receive credits only, above the barrier. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨r, rfl⟩ := O₁_pos hg; exact Finset.mem_singleton_self _)
    (fun p hp => by rw [Finset.mem_singleton.mp hp]; show level (role (.reg barS)) ≤ 1; rw [role_bar]; decide)
    (fun g u hg => by obtain ⟨r, rfl⟩ := O₁_pos hg; show 1 < level (role (.dma (recvS r))); rw [role_recv]; exact Nat.lt_of_sub_ne_zero nofun)

end Cert.Exchange

end
-- ==== Proof.Program.lean ====
/-
The kernel's body as four runs of the hops 1 to 15: the printed body repeats each of its four kinds of step (signal a
device's barrier, send a block, wait for a block, wait for a send to be done) fifteen times, hop by hop. Here each
kind is one operation over the hop, and the body is shown to be the runs of those with the few single steps between.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One effect of the kernel, and its programs. -/
abbrev Op (F : FTy → Type) [FloatOps F] : Type := TpuEff nD τ sig (Elt F) Λ₀ .tc PUnit
abbrev Code (F : FTy → Type) [FloatOps F] : Type 1 := Prog (TpuEff nD τ sig (Elt F) Λ₀ .tc) PUnit

/-- The operations `op r`, for the hops `r` of `l` in order, and then `k`. -/
def runOps (op : Fin 15 → Op F) : List (Fin 15) → Code F → Code F
  | [], k => k
  | r :: l, k => .op (op r) fun _ => runOps op l k

/-! ## Devices and offsets the kernel computes -/

/-- The device whose barrier hop `r` signals, and the device its transfer is addressed to, as printed. -/
def sigDev (c : Dev nD) : Fin 15 → Dev nD
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩ | 7 => ⟨k0_dev8 c, k0_dev8_lt c⟩ | 8 => ⟨k0_dev9 c, k0_dev9_lt c⟩
  | 9 => ⟨k0_dev10 c, k0_dev10_lt c⟩ | 10 => ⟨k0_dev11 c, k0_dev11_lt c⟩ | 11 => ⟨k0_dev12 c, k0_dev12_lt c⟩
  | 12 => ⟨k0_dev13 c, k0_dev13_lt c⟩ | 13 => ⟨k0_dev14 c, k0_dev14_lt c⟩ | 14 => ⟨k0_dev15 c, k0_dev15_lt c⟩
def sendDev (c : Dev nD) : Fin 15 → Dev nD
  | 0 => ⟨k0_dev16 c, k0_dev16_lt c⟩ | 1 => ⟨k0_dev17 c, k0_dev17_lt c⟩ | 2 => ⟨k0_dev18 c, k0_dev18_lt c⟩
  | 3 => ⟨k0_dev19 c, k0_dev19_lt c⟩ | 4 => ⟨k0_dev20 c, k0_dev20_lt c⟩ | 5 => ⟨k0_dev21 c, k0_dev21_lt c⟩
  | 6 => ⟨k0_dev22 c, k0_dev22_lt c⟩ | 7 => ⟨k0_dev23 c, k0_dev23_lt c⟩ | 8 => ⟨k0_dev24 c, k0_dev24_lt c⟩
  | 9 => ⟨k0_dev25 c, k0_dev25_lt c⟩ | 10 => ⟨k0_dev26 c, k0_dev26_lt c⟩ | 11 => ⟨k0_dev27 c, k0_dev27_lt c⟩
  | 12 => ⟨k0_dev28 c, k0_dev28_lt c⟩ | 13 => ⟨k0_dev29 c, k0_dev29_lt c⟩ | 14 => ⟨k0_dev30 c, k0_dev30_lt c⟩

theorem sigDev_eq (c : Dev nD) (r : Fin 15) : sigDev c r = ahead r c := by revert c r; decide +kernel
theorem sendDev_eq (c : Dev nD) (r : Fin 15) : sendDev c r = ahead r c := by revert c r; decide +kernel

/-! ## The operations -/

abbrev yW : (yM : Memref sig .tc .vmem S256x2048 .bf16).IsWhole := Memref.isWhole_whole _
abbrev sW : (sM : Memref sig .tc .vmem S4096x128 .bf16).IsWhole := Memref.isWhole_whole _

/-- The number of hop `r` as the kernel's word. -/
abbrev hopW (r : Fin 15) : BitVec 32 := BitVec.ofNat 32 (1 + r.val)

/-- The block of `y` hop `r` sends; where it lands; where the block hop `r` receives lands. -/
abbrev sendSrc (c : Dev nD) (r : Fin 15) : Memref sig .tc .vmem S256x128 .bf16 :=
  yM.slice (Rect.unit (s := S256x2048) (k0_off3 c (hopW r)) S256x128.size (k0_off3_inb c r)) (fun _ => rfl)
abbrev ownRows (c : Dev nD) : Memref sig .tc .vmem S256x128 .bf16 :=
  sM.slice (Rect.unit (s := S4096x128) (k0_off1 c) S256x128.size (k0_off1_inb c)) (fun _ => rfl)
abbrev ownCols (c : Dev nD) : Memref sig .tc .vmem S256x128 .bf16 :=
  yM.slice (Rect.unit (s := S256x2048) (k0_off2 c) S256x128.size (k0_off2_inb c)) (fun _ => rfl)
abbrev recvDst (c : Dev nD) (r : Fin 15) : Memref sig .tc .vmem S256x128 .bf16 :=
  sM.slice (Rect.unit (s := S4096x128) (k0_off4 c (hopW r)) S256x128.size (k0_off4_inb c r)) (fun _ => rfl)
abbrev anyCols : Memref sig .tc .vmem S256x128 .bf16 :=
  yM.slice (Rect.unit (s := S256x2048) ![0, 0] S256x128.size inb_S256x2048_S256x128_0_0) (fun _ => rfl)

def signalOp (c : Dev nD) (r : Fin 15) : Op F := .semSignal (sigDev c r, .tc) barS ((1 : ℕ) : ℤ)
def sendOp (c : Dev nD) (r : Fin 15) : Op F :=
  .enqueueDma (sendSrc c r) (.remote (Dev.tc (sendDev c r)) (ownRows c) (.dma (sendS r))) (.dma (recvS r))
    (yW.wordExact_slice rfl _ (k0_off3_wordsbf16 c r)) (sW.wordExact_slice rfl _ (k0_off1_wordsbf16 c)) ⟨⟨rfl, Or.inl rfl⟩, trivial⟩
def recvOp (c : Dev nD) (r : Fin 15) : Op F :=
  .waitDma2 (recvS r) anyCols (recvDst c r) (yW.wordExact_slice rfl _ wordsbf16_S256x2048_S256x128_0_0)
    (sW.wordExact_slice rfl _ (k0_off4_wordsbf16 c r))
def doneOp (c : Dev nD) (r : Fin 15) : Op F :=
  .waitDma2 (sendS r) (ownRows c) (sendSrc c r) (sW.wordExact_slice rfl _ (k0_off1_wordsbf16 c))
    (yW.wordExact_slice rfl _ (k0_off3_wordsbf16 c r))
def copyOp (c : Dev nD) : Op F :=
  .enqueueDma (ownCols c) (.here (ownRows c)) (.dma copyS) (yW.wordExact_slice rfl _ (k0_off2_wordsbf16 c))
    (sW.wordExact_slice rfl _ (k0_off1_wordsbf16 c)) ⟨Or.inl rfl, trivial⟩
def copiedOp (c : Dev nD) : Op F :=
  .waitDma2 copyS (ownCols c) (ownRows c) (yW.wordExact_slice rfl _ (k0_off2_wordsbf16 c)) (sW.wordExact_slice rfl _ (k0_off1_wordsbf16 c))

/-! ## The body -/

abbrev xR : Rect S256x4096 := Rect.unit (s := S256x4096) ![0, 0] S256x4096.size inb_S256x4096_S256x4096_0_0
abbrev wR : Rect S4096x2048 := Rect.unit (s := S4096x2048) ![0, 0] S4096x2048.size inb_S4096x2048_S4096x2048_0_0
abbrev yR : Rect S256x2048 := Rect.unit (s := S256x2048) ![0, 0] S256x2048.size inb_S256x2048_S256x2048_0_0
abbrev sR : Rect S4096x128 := Rect.unit (s := S4096x128) ![0, 0] S4096x128.size inb_S4096x128_S4096x128_0_0
abbrev aR : Rect S1 := Rect.unit (s := S1) ![0] S1.size inb_S1_S1_0

/-- The last part: the stage, widened, into the result; then the sends are done. -/
def finish (c : Dev nD) : Code F :=
  .op (.load sM sR.toLoadRect (View.loadsAt_vmem h_S4096x128)) fun v =>
  .op (.load oM sR.toLoadRect (View.loadsAt_vmem h_S4096x128)) fun _ =>
  .op (.store oM sR (k0_pay2 v) Finset.univ (View.stores_vmem_bits_univ h_S4096x128 rfl) (.inl rfl)) fun _ =>
  runOps (doneOp c) hops (.ret ⟨⟩)

/-- From the barrier wait on: the product, then the exchange of its blocks. -/
def exchange (c : Dev nD) : Code F :=
  .op (.semWait barS ((15 : ℕ) : ℤ)) fun _ =>
  (smemLoad axM aR numel1_S1 rfl : Prog (TpuEff nD τ sig (Elt F) Λ₀ .tc) (Elt F .f32)).bind fun a =>
  (smemLoad awM aR numel1_S1 rfl : Prog (TpuEff nD τ sig (Elt F) Λ₀ .tc) (Elt F .f32)).bind fun b =>
  .op (.load xM xR.toLoadRect (View.loadsAt_vmem h_S256x4096)) fun x =>
  .op (.load wM wR.toLoadRect (View.loadsAt_vmem h_S4096x2048)) fun w =>
  .op (.load yM yR.toLoadRect (View.loadsAt_vmem h_S256x2048)) fun _ =>
  .op (.store yM yR (k0_pay1 a b x w) Finset.univ
    (View.stores_vmem h_S256x2048 (yW.storeExact_slice rfl _ packedbf16_S256x2048_S256x2048_0_0) (fun _ => rfl)) (.inl rfl)) fun _ =>
  .op (copyOp c) fun _ =>
  runOps (sendOp c) hops (.op (copiedOp c) fun _ => runOps (recvOp c) hops (finish c))

set_option maxRecDepth 100000 in
set_option maxHeartbeats 4000000 in
/-- The printed body is: read the device's number, signal every barrier, and the exchange. -/
theorem body_eq :
    cc0_body (F := F) xM (Memref.isWhole_whole _) wM (Memref.isWhole_whole _) axM (Memref.isWhole_whole _) awM (Memref.isWhole_whole _)
        oM (Memref.isWhole_whole _) yM (Memref.isWhole_whole _) sM (Memref.isWhole_whole _) cc0_scratch2 cc0_scratch3 cc0_scratch4
      = .op .deviceId fun c => runOps (signalOp c) hops (exchange c) := by
  rw [cc0_body_eq_skeleton]
  rfl

end Cert.Exchange

end
-- ==== Proof.Body.lean ====
/-
The body of the kernel on one device, run step by step: the signals, the barrier wait, the product, the sends, the
waits, and the widened stage stored to the result. Each run of hops is one induction (`run_wp`) over one step.
-/
module

public import proofs.«01_k».proof.Proof.Program

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The program `p` on device `c`, run to the postcondition `Q`. -/
abbrev wpc (c : Dev nD) (p : Code F) (Q : PUnit → sProp (MT nD τ sig Unit (Elt F) ℕ UU ℕ)) : sProp (MT nD τ sig Unit (Elt F) ℕ UU ℕ) :=
  wp frame (wpE (defs₀ (F := F)) 𝒱₀ (c : Thread nD τ) none) Set.univ p Q

/-! ## Splitting a buffer into blocks -/

theorem bigSep_unit_sum (Φ : Unit ⊕ Fin 15 → sProp 𝕄) :
    bigSep Finset.univ Φ = iprop(Φ (.inl ()) ∗ bigSep Finset.univ fun r : Fin 15 => Φ (.inr r)) := by
  rw [bigSep_univ_sum, bigSep_univ_of_subsingleton ()]; rfl
theorem bigSep_cons {r : Fin 15} {S : Finset (Fin 15)} (h : r ∉ S) (Φ : Fin 15 → sProp 𝕄) :
    bigSep (insert r S) Φ = iprop(Φ r ∗ bigSep S Φ) := bigSep_insert h

/-- A product of a fact per device, as the device's own and the fifteen others', counted by `g`. -/
theorem bigSep_others (g : Unit ⊕ Fin 15 → Dev nD) (hg : Function.Bijective g) (Φ : Dev nD → sProp 𝕄) :
    bigSep Finset.univ Φ = iprop(Φ (g (.inl ())) ∗ bigSep Finset.univ fun r : Fin 15 => Φ (g (.inr r))) := by
  rw [bigSep_univ_equiv (Equiv.ofBijective g hg), bigSep_unit_sum]; rfl

theorem rows_split (c : Dev nD) (f : Vec F S4096x128 .bf16) :
    (sLoc c ↦{fullShare} f : sProp 𝕄) = bigSep Finset.univ fun e : Dev nD => rowPts c e f := by
  rw [show (sLoc c ↦{fullShare} f : sProp 𝕄) = bigSep Finset.univ fun e : Dev nD => (sLoc c ↦[rows e]{fullShare} f : sProp 𝕄) from
    Ring.pointsTo_blocks (ℓ := sLoc c) (fun e => rows e) (fun e e' h => rows_disjoint e e' h)
      (Finset.eq_univ_of_forall fun i => Finset.mem_biUnion.mpr ⟨rowDev i, Finset.mem_univ _, mem_rows i⟩) f]
  refine bigSep_congr fun e _ => ?_
  unfold rowPts; rw [rowBlk_set]
theorem cols_split (y : Dev nD → Vec F S256x2048 .bf16) (c : Dev nD) :
    (yLoc c ↦{fullShare} y c : sProp 𝕄) = bigSep Finset.univ fun e : Dev nD => colPts y c e := by
  rw [show (yLoc c ↦{fullShare} y c : sProp 𝕄) = bigSep Finset.univ fun e : Dev nD => (yLoc c ↦[cols e]{fullShare} y c : sProp 𝕄) from
    Ring.pointsTo_blocks (ℓ := yLoc c) (fun e => cols e) (fun e e' h => cols_disjoint e e' h)
      (Finset.eq_univ_of_forall fun i => Finset.mem_biUnion.mpr ⟨colDev i, Finset.mem_univ _, mem_cols i⟩) (y c)]
  refine bigSep_congr fun e _ => ?_
  unfold colPts; rw [colBlk_set]

/-! ## The ghost state of the exchange -/

section Ghost

variable (y : Dev nD → Vec F S256x2048 .bf16) (K : Dev nD × Cel → ℕ)

/-- Every cell's invariant, under the names `K`, and that every cell is at its round. -/
def records : sProp 𝕄 :=
  iprop((bigSep Finset.univ fun ck : Dev nD × Cel => cellInv ER (sched y) (K ck) (kcell ck))
    ∗ bigSep Finset.univ fun ck : Dev nD × Cel => reached ER (kcell ck) 0)

instance records_persistent : BI.Persistent (records y K) := by unfold records; infer_instance

theorem rec_at (c : Dev nD) (k : Cel) :
    records y K ⊢ iprop(cellInv ER (sched y) (K (c, k)) (kcell (c, k)) ∗ reached ER (kcell (c, k)) 0) :=
  BI.sep_mono (bigSep_elim (Finset.mem_univ (c, k))) (bigSep_elim (Finset.mem_univ (c, k)))

abbrev kBar : Cel := .inl ()
abbrev kSend (r : Fin 15) : Cel := .inr (.inl r)
abbrev kRecv (r : Fin 15) : Cel := .inr (.inr (.inl r))
abbrev kCopy : Cel := .inr (.inr (.inr 0))
abbrev kIdleA : Cel := .inr (.inr (.inr 1))
abbrev kIdleB : Cel := .inr (.inr (.inr 2))

/-- The tokens of the duties device `c` pays. -/
def payToks (c : Dev nD) : sProp 𝕄 :=
  iprop((bigSep Finset.univ fun r : Fin 15 => dutyTok ER (barCell (ahead r c)) 0 r)
    ∗ (bigSep Finset.univ fun r : Fin 15 => dutyTok ER (sendCell c r) 0 0)
    ∗ (bigSep Finset.univ fun r : Fin 15 => dutyTok ER (recvCell (ahead r c) r) 0 0)
    ∗ dutyTok ER (copyCell c) 0 0)

/-- Its positions, all at the start. -/
def places (c : Dev nD) : sProp 𝕄 := bigSep Finset.univ fun k : Cel => atPos ER (kcell (c, k)) 0 ∅ 0

/-- A fact of every cell of a device, written out by the cells' roles. -/
theorem bigSep_cel (Φ : Cel → sProp 𝕄) :
    bigSep Finset.univ Φ = iprop(Φ kBar ∗ (bigSep Finset.univ fun r => Φ (kSend r)) ∗ (bigSep Finset.univ fun r => Φ (kRecv r))
      ∗ Φ kCopy ∗ Φ kIdleA ∗ Φ kIdleB) := by
  rw [bigSep_univ_sum, bigSep_univ_of_subsingleton (), bigSep_univ_sum, bigSep_univ_sum,
    bigSep_univ_eq_bigSepL [(0 : Fin 3), 1, 2] (by decide) (by decide)]
  rfl

/-! ## A run of hops -/

set_option maxHeartbeats 400000 in
/-- A run of the operations `op` over the hops `l`, given what one of them does to what is owed (`t r` less of it) and
    to the hop's own resources (`Φ r` into `Ψ r`). -/
theorem run_wp (c : Dev nD) (op : Fin 15 → Op F) (P : sProp 𝕄) [BI.Persistent P] (O : CellTallies nD τ sig Unit)
    (t : Fin 15 → CellTallies nD τ sig Unit) (Φ Ψ : Fin 15 → sProp 𝕄)
    (step : ∀ (r : Fin 15) (S : Finset (Fin 15)) (W : Waits sig Unit) (k : Code F) (Q : PUnit → sProp 𝕄),
      iprop(P ∗ owes (c : Thread nD τ) (O + ∑ i ∈ S, t i + t r) W ∗ Φ r)
        ⊢ iprop((((∃ W, owes (c : Thread nD τ) (O + ∑ i ∈ S, t i) W) ∗ Ψ r) -∗ wpc c k Q) -∗ wpc c (.op (op r) fun _ => k) Q))
    (k : Code F) (Q : PUnit → sProp 𝕄) : ∀ l : List (Fin 15), l.Nodup →
      iprop(P ∗ (∃ W, owes (c : Thread nD τ) (O + ∑ i ∈ l.toFinset, t i) W) ∗ bigSep l.toFinset Φ)
        ⊢ iprop((((∃ W, owes (c : Thread nD τ) O W) ∗ bigSep l.toFinset Ψ) -∗ wpc c k Q) -∗ wpc c (runOps op l k) Q)
  | [], _ => by
    rw [List.toFinset_nil, Finset.sum_empty, add_zero, bigSep_empty, bigSep_empty]
    iintro ⟨-, HO, HΦ⟩ Hk
    iapply Hk
    isplitl [HO] <;> iassumption
  | r :: l, hl => by
    have hr : r ∉ l.toFinset := fun h => (List.nodup_cons.mp hl).1 (List.mem_toFinset.mp h)
    rw [List.toFinset_cons, Finset.sum_insert hr, bigSep_cons hr, bigSep_cons hr, add_comm (t r), ← add_assoc]
    iintro ⟨#HP, ⟨%W, HO⟩, Hr, Hl⟩ Hk
    unfold runOps
    iapply (step r l.toFinset W (runOps op l k) Q) $$ [HO Hr]
    · isplitr; · iexact HP
      isplitl [HO] <;> iassumption
    iintro ⟨HO, Hr⟩
    iapply (run_wp c op P O t Φ Ψ step k Q l (List.nodup_cons.mp hl).2) $$ [HO Hl]
    · isplitr; · iexact HP
      isplitl [HO] <;> iassumption
    iintro ⟨HO, Hl⟩
    iapply Hk
    isplitl [HO]; · iexact HO
    isplitl [Hr] <;> iassumption

/-- The same over all the hops. -/
theorem run_hops (c : Dev nD) (op : Fin 15 → Op F) (P : sProp 𝕄) [BI.Persistent P] (O : CellTallies nD τ sig Unit)
    (t : Fin 15 → CellTallies nD τ sig Unit) (Φ Ψ : Fin 15 → sProp 𝕄)
    (step : ∀ (r : Fin 15) (S : Finset (Fin 15)) (W : Waits sig Unit) (k : Code F) (Q : PUnit → sProp 𝕄),
      iprop(P ∗ owes (c : Thread nD τ) (O + ∑ i ∈ S, t i + t r) W ∗ Φ r)
        ⊢ iprop((((∃ W, owes (c : Thread nD τ) (O + ∑ i ∈ S, t i) W) ∗ Ψ r) -∗ wpc c k Q) -∗ wpc c (.op (op r) fun _ => k) Q))
    (k : Code F) (Q : PUnit → sProp 𝕄) :
    iprop(P ∗ (∃ W, owes (c : Thread nD τ) (O + ∑ i, t i) W) ∗ bigSep Finset.univ Φ)
      ⊢ iprop((((∃ W, owes (c : Thread nD τ) O W) ∗ bigSep Finset.univ Ψ) -∗ wpc c k Q) -∗ wpc c (runOps op hops k) Q) := by
  have h := run_wp c op P O t Φ Ψ step k Q hops hops_nodup
  rw [hops_all] at h
  exact h

/-! ## The steps -/

/-- Hop `r`'s signal: the stage rows for the device ahead go with it. -/
theorem signal_step (c : Dev nD) (r : Fin 15) (S : Finset (Fin 15)) (W : Waits sig Unit) (k : Code F) (Q : PUnit → sProp 𝕄) :
    iprop(records y K ∗ owes (c : Thread nD τ) (O₁ c + ∑ i ∈ S, dueBar c i + dueBar c r) W
        ∗ dutyTok ER (barCell (ahead r c)) 0 r ∗ ∃ f, rowPts c (ahead r c) f)
      ⊢ iprop((((∃ W, owes (c : Thread nD τ) (O₁ c + ∑ i ∈ S, dueBar c i) W) ∗ emp) -∗ wpc c k Q)
          -∗ wpc c (.op (signalOp c r) fun _ => k) Q) := by
  unfold signalOp
  rw [sigDev_eq]
  iintro ⟨#HR, HO, Ht, Hs⟩ Hk
  ihave Hb := (rec_at y K (ahead r c) kBar) $$ HR
  icases Hb with ⟨#HI, #Hr⟩
  iapply (Rounds.wp_signal 𝒱₀ ER (sched y) (c : Thread nD τ) none (dst := (ahead r c : Thread nD τ)) (κ := K (ahead r c, kBar))
      (d := r) (by rw [duties_first, role_bar]; exact Finset.mem_univ _) (by rw [amount_at, role_bar]; rfl) ()
      (O₁ c + ∑ i ∈ S, dueBar c i) rfl) $$ [HO Ht Hs]
  · isplitr; · iexact HI
    isplitl [HO]; · iexact HO
    isplitl [Ht]; · iexact Ht
    isplitl [Hs]
    · rw [payload_at, role_bar, pay_bar, behind_ahead]; iexact Hs
    · iexact Hr
  iintro HO
  iapply Hk
  isplitl [HO]
  · iexists W; iexact HO
  · iempintro

/-- A transfer of columns of `y c` into rows `c` of the stage of device `n` ahead. -/
theorem send_at (c n : Dev nD) (r : Fin 15) (hn : n = ahead r c) {o₃ o₁ : Fin 2 → Nat} (h₃ : o₃ = ![0, 128 * (ahead r c).val])
    (h₁ : o₁ = ![256 * c.val, 0]) {i₃ : ∀ a, o₃ a + S256x128.size a ≤ S256x2048.size a} {i₁ : ∀ a, o₁ a + S256x128.size a ≤ S4096x128.size a}
    {hsc : (sM.slice (Rect.unit (s := S4096x128) o₁ S256x128.size i₁) (fun _ => rfl)).view.ref.isScScratch = false}
    {hsrc : (yM.slice (Rect.unit (s := S256x2048) o₃ S256x128.size i₃) (fun _ => rfl) : Memref sig .tc .vmem S256x128 .bf16).view.WordExact}
    {hdst : (sM.slice (Rect.unit (s := S4096x128) o₁ S256x128.size i₁) (fun _ => rfl) : Memref sig .tc .vmem S256x128 .bf16).view.WordExact}
    {hsem : DmaTarget.Typed .vmem (.dma (recvS r)) (.remote (Dev.tc n : Thread nD τ)
      (sM.slice (Rect.unit (s := S4096x128) o₁ S256x128.size i₁) (fun _ => rfl) : Memref sig .tc .vmem S256x128 .bf16) (.dma (sendS r)) hsc)}
    (O : CellTallies nD τ sig Unit) (W : Waits sig Unit) (k : Code F) (Q : PUnit → sProp 𝕄) :
    iprop(records y K ∗ owes (c : Thread nD τ) (O + dueRecv c r) W
        ∗ colPts y c (ahead r c) ∗ (∃ f, rowPts (ahead r c) c f) ∗ dutyTok ER (sendCell c r) 0 0 ∗ dutyTok ER (recvCell (ahead r c) r) 0 0)
      ⊢ iprop((((∃ W, owes (c : Thread nD τ) O W) ∗ cred (tallyAt (sendCell c r) () N)) -∗ wpc c k Q)
          -∗ wpc c (.op (.enqueueDma (yM.slice (Rect.unit (s := S256x2048) o₃ S256x128.size i₃) (fun _ => rfl))
              (.remote (Dev.tc n : Thread nD τ) (sM.slice (Rect.unit (s := S4096x128) o₁ S256x128.size i₁) (fun _ => rfl)) (.dma (sendS r)) hsc)
              (.dma (recvS r)) hsrc hdst hsem) fun _ => k) Q) := by
  subst hn h₃ h₁
  iintro ⟨#HR, HO, Hc, ⟨%f, Hs⟩, Ht, Hu⟩ Hk
  ihave Hb := (rec_at y K c (kSend r)) $$ HR
  icases Hb with ⟨#HI, #Hr⟩
  ihave Hb := (rec_at y K (ahead r c) (kRecv r)) $$ HR
  icases Hb with ⟨#HI', #Hr'⟩
  unfold colPts rowPts
  iapply (Rounds.wp_send_pointsTo 𝒱₀ ER (sched y) (c : Thread nD τ) none (κ₁ := K (c, kSend r)) (κ₂ := K (ahead r c, kRecv r))
      (r₁ := 0) (r₂ := 0) (d₁ := 0) (d₂ := 0) (fd := f)
      (by rw [duties_first, role_send]; exact Finset.mem_singleton_self _) (by rw [duties_first, role_recv]; exact Finset.mem_singleton_self _)
      () () N rfl (by rw [amount_at, role_send]; rfl) (by rw [amount_at, role_recv]; rfl) O rfl (W := W)
      (by rw [payload_at, role_send]; exact BI.Entails.refl _)
      (by rw [payload_at, role_recv, pay_recv, behind_ahead]; exact Entails.of_eq (pointsTo_congr (landed_eq y (ahead r c) c f)))) $$ [HO Hc Hs Ht Hu]
  · isplitr; · iexact HI
    isplitr; · iexact HI'
    isplitl [Hc]; · iexact Hc
    isplitl [Hs]; · iexact Hs
    isplitl [HO]; · iexact HO
    isplitl [Ht]; · iexact Ht
    isplitr; · iexact Hr
    isplitl [Hu]; · iexact Hu
    iexact Hr'
  iintro ⟨Hcr, HO⟩
  iapply Hk
  isplitl [HO]
  · iexists W; iexact HO
  · iexact Hcr

/-- A wait for the one duty of a semaphore of the device's own, which ends its use. -/
theorem wait_step (c : Dev nD) (s : DmaSem sig) (j : Cel) (hj : csem j = .dma s) (hd : dutiesOf (role (.dma s)) = {0})
    (ha : amountOf (role (.dma s)) = N) {op : Op F} {n : ℕ} (hn : n = N)
    (hop : ∀ R : PUnit → sProp 𝕄, wpE (defs₀ (F := F)) 𝒱₀ (c : Thread nD τ) none Set.univ op R = waitSpec (c : Thread nD τ) Set.univ (.dma s) n R)
    (W : Waits sig Unit) (k : Code F) (Q : PUnit → sProp 𝕄) :
    iprop(records y K ∗ owes (c : Thread nD τ) 0 W ∗ cred (tallyAt ((c : Thread nD τ), .dma s) () N) ∗ atPos ER ((c : Thread nD τ), .dma s) 0 ∅ 0)
      ⊢ iprop((((∃ W, owes (c : Thread nD τ) 0 W) ∗ semVal ((c : Thread nD τ), .dma s) 0 ∗ pay y c 0 (role (.dma s))) -∗ wpc c k Q)
          -∗ wpc c (.op op fun _ => k) Q) := by
  subst hn
  have hrec : records y K ⊢ iprop(cellInv ER (sched y) (K (c, j)) ((c : Thread nD τ), .dma s) ∗ reached ER ((c : Thread nD τ), .dma s) 0) := by
    rw [← hj]; exact rec_at y K c j
  iintro ⟨#HR, HO, Hc, Hat⟩ Hk
  ihave Hb := hrec $$ HR
  icases Hb with ⟨#HI, -⟩
  iapply (Rounds.wp_wait_rest_token 𝒱₀ ER (sched y) (c : Thread nD τ) none (κ := K (c, j)) hop (Set.mem_univ _) () (O := 0) (W := W)
      (R := 0) (m := 0) (T := ∅) (by rw [Nat.zero_add, expect_one y c _ hd ha])) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq (rest_one y c _ hd)) $$ Hp
  imod (Rounds.cell_close ER (sched y) (Set.mem_univ (K (c, j))) (fun h => h) (R := 0 + 1) (duties_later y _)) $$ [Hat] with Hz
  · isplitr; · iexact HI
    iexact Hat
  iapply Hk
  isplitl [HO]
  · iexists _; iexact HO
  isplitl [Hz] <;> iassumption

end Ghost

end Cert.Exchange

end
-- ==== Proof.Device.lean ====
/-
One device from what the launch gives it to what it gives back: the body's run assembled from the steps, at the
contents the launch memory holds, and the obligation the pipeline's launch asks for.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The single steps -/

section Steps

variable (y : Dev nD → Vec F S256x2048 .bf16) (K : Dev nD × Cel → ℕ)

/-- The local copy, columns `c` of `y c` into rows `c` of the device's own stage. -/
theorem copy_at (c : Dev nD) {o₂ o₁ : Fin 2 → Nat} (h₂ : o₂ = ![0, 128 * c.val]) (h₁ : o₁ = ![256 * c.val, 0])
    {i₂ : ∀ a, o₂ a + S256x128.size a ≤ S256x2048.size a} {i₁ : ∀ a, o₁ a + S256x128.size a ≤ S4096x128.size a}
    {hsrc : (yM.slice (Rect.unit (s := S256x2048) o₂ S256x128.size i₂) (fun _ => rfl) : Memref sig .tc .vmem S256x128 .bf16).view.WordExact}
    {hdst : (sM.slice (Rect.unit (s := S4096x128) o₁ S256x128.size i₁) (fun _ => rfl) : Memref sig .tc .vmem S256x128 .bf16).view.WordExact}
    {hsem : DmaTarget.Typed (nD := nD) (τ := τ) (p := .tc) .vmem (.dma copyS) (.here
      (sM.slice (Rect.unit (s := S4096x128) o₁ S256x128.size i₁) (fun _ => rfl) : Memref sig .tc .vmem S256x128 .bf16))}
    (f : Vec F S4096x128 .bf16) (k : Code F) (Q : PUnit → sProp 𝕄) :
    iprop(records y K ∗ colPts y c c ∗ rowPts c c f ∗ dutyTok ER (copyCell c) 0 0)
      ⊢ iprop((cred (tallyAt (copyCell c) () N) -∗ wpc c k Q)
          -∗ wpc c (.op (.enqueueDma (yM.slice (Rect.unit (s := S256x2048) o₂ S256x128.size i₂) (fun _ => rfl))
              (.here (sM.slice (Rect.unit (s := S4096x128) o₁ S256x128.size i₁) (fun _ => rfl))) (.dma copyS) hsrc hdst hsem) fun _ => k) Q) := by
  subst h₂ h₁
  iintro ⟨#HR, Hc, Hs, Ht⟩ Hk
  ihave Hb := (rec_at y K c kCopy) $$ HR
  icases Hb with ⟨#HI, #Hr⟩
  unfold colPts rowPts
  iapply (Rounds.wp_copy_pointsTo 𝒱₀ ER (sched y) (c : Thread nD τ) none (κ := K (c, kCopy)) (r := 0) (d := 0) (fd := f)
      (by rw [duties_first, role_copy]; exact Finset.mem_singleton_self _) () N rfl (by rw [amount_at, role_copy]; rfl)
      (by rw [payload_at, role_copy, pay_copy]; exact BI.sep_mono (Entails.of_eq (pointsTo_congr (landed_eq y c c f))) (BI.Entails.refl _)))
    $$ [Hc Hs Ht]
  · isplitr; · iexact HI
    isplitl [Hc]; · iexact Hc
    isplitl [Hs]; · iexact Hs
    isplitl [Ht]; · iexact Ht
    iexact Hr
  iexact Hk

/-- Hop `r`'s transfer. -/
theorem send_step (c : Dev nD) (r : Fin 15) (S : Finset (Fin 15)) (W : Waits sig Unit) (k : Code F) (Q : PUnit → sProp 𝕄) :
    iprop(records y K ∗ owes (c : Thread nD τ) (0 + ∑ i ∈ S, dueRecv c i + dueRecv c r) W
        ∗ colPts y c (ahead r c) ∗ (∃ f, rowPts (ahead r c) c f) ∗ dutyTok ER (sendCell c r) 0 0 ∗ dutyTok ER (recvCell (ahead r c) r) 0 0)
      ⊢ iprop((((∃ W, owes (c : Thread nD τ) (0 + ∑ i ∈ S, dueRecv c i) W) ∗ cred (tallyAt (sendCell c r) () N)) -∗ wpc c k Q)
          -∗ wpc c (.op (sendOp c r) fun _ => k) Q) :=
  send_at y K c (sendDev c r) r (sendDev_eq c r) (off3_eq c r) (k0_off1_eq c) _ W k Q

/-- Hop `r`'s wait for the block from the device behind. -/
theorem recv_step (c : Dev nD) (r : Fin 15) (S : Finset (Fin 15)) (W : Waits sig Unit) (k : Code F) (Q : PUnit → sProp 𝕄) :
    iprop(records y K ∗ owes (c : Thread nD τ) (0 + ∑ i ∈ S, (0 : CellTallies nD τ sig Unit) + 0) W
        ∗ cred (tallyAt (recvCell c r) () N) ∗ atPos ER (recvCell c r) 0 ∅ 0)
      ⊢ iprop((((∃ W, owes (c : Thread nD τ) (0 + ∑ i ∈ S, (0 : CellTallies nD τ sig Unit)) W)
            ∗ semVal (recvCell c r) 0 ∗ rowPts c (behind r c) (stageAt y c)) -∗ wpc c k Q)
          -∗ wpc c (.op (recvOp c r) fun _ => k) Q) := by
  simp only [Finset.sum_const_zero, add_zero]
  rw [← pay_recv y c 0 r, ← role_recv r]
  exact wait_step y K c (recvS r) (kRecv r) rfl (by rw [role_recv]; rfl) (by rw [role_recv]; rfl) (op := recvOp c r)
    (n := (recvDst c r).view.dmaCredit) rfl (by unfold recvOp; exact wpE_waitDma2_eq 𝒱₀ (c : Thread nD τ) none Set.univ) W k Q

/-- Hop `r`'s wait for its own transfer to have left. -/
theorem done_step (c : Dev nD) (r : Fin 15) (S : Finset (Fin 15)) (W : Waits sig Unit) (k : Code F) (Q : PUnit → sProp 𝕄) :
    iprop(records y K ∗ owes (c : Thread nD τ) (0 + ∑ i ∈ S, (0 : CellTallies nD τ sig Unit) + 0) W
        ∗ cred (tallyAt (sendCell c r) () N) ∗ atPos ER (sendCell c r) 0 ∅ 0)
      ⊢ iprop((((∃ W, owes (c : Thread nD τ) (0 + ∑ i ∈ S, (0 : CellTallies nD τ sig Unit)) W)
            ∗ semVal (sendCell c r) 0 ∗ colPts y c (ahead r c)) -∗ wpc c k Q)
          -∗ wpc c (.op (doneOp c r) fun _ => k) Q) := by
  simp only [Finset.sum_const_zero, add_zero]
  rw [← pay_send y c 0 r, ← role_send r]
  exact wait_step y K c (sendS r) (kSend r) rfl (by rw [role_send]; rfl) (by rw [role_send]; rfl) (op := doneOp c r)
    (n := (sendSrc c r).view.dmaCredit) rfl (by unfold doneOp; exact wpE_waitDma2_eq 𝒱₀ (c : Thread nD τ) none Set.univ) W k Q

/-- What the barrier hands over, counted by the hop that writes it. -/
theorem bar_rows (c : Dev nD) :
    (bigSep Finset.univ fun d : Fin 15 => (iprop(∃ f, rowPts (behind d c) c f) : sProp 𝕄))
      = bigSep Finset.univ fun r : Fin 15 => iprop(∃ f, rowPts (ahead r c) c f) := by
  rw [bigSep_univ_equiv Fin.revPerm]
  exact bigSep_congr fun r _ => by rw [Fin.revPerm_apply, behind_rev]

/-- A cell no duty lands on closes as it stands. -/
theorem idle_close (c : Dev nD) (s : DmaSem sig) (j : Cel) (hj : csem j = .dma s) (hs : role (.dma s) = .idle) :
    iprop(records y K ∗ atPos ER ((c : Thread nD τ), .dma s) 0 ∅ 0) ⊢ |={Set.univ}=> semVal ((c : Thread nD τ), .dma s) 0 := by
  have hrec : records y K ⊢ iprop(cellInv ER (sched y) (K (c, j)) ((c : Thread nD τ), .dma s) ∗ reached ER ((c : Thread nD τ), .dma s) 0) := by
    rw [← hj]; exact rec_at y K c j
  iintro ⟨HR, Hat⟩
  ihave Hb := hrec $$ HR
  icases Hb with ⟨#HI, -⟩
  iapply (Rounds.cell_close ER (sched y) (Set.mem_univ (K (c, j))) (fun h => h) (R := 0) (duties_idle y c _ hs))
  isplitr; · iexact HI
  iexact Hat

end Steps

/-! ## The contents at launch -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- What the four input windows of device `c` hold. -/
def xAt (c : Dev nD) : (cc0_stg0_0 : Ref sig .tc).ty.Contents (Elt F) :=
  (win0_0.blk (0 : Fin 1)).view.read (Elt F) (m ((c : Thread nD τ).loc main_arg0))
def wAt (c : Dev nD) : (cc0_stg1_0 : Ref sig .tc).ty.Contents (Elt F) :=
  (win0_1.blk (0 : Fin 1)).view.read (Elt F) (m ((c : Thread nD τ).loc main_arg1))
def axAt (c : Dev nD) : (cc0_stg2_0 : Ref sig .tc).ty.Contents (Elt F) :=
  (win0_2.blk (0 : Fin 1)).view.read (Elt F) (m ((c : Thread nD τ).loc main_arg2))
def awAt (c : Dev nD) : (cc0_stg3_0 : Ref sig .tc).ty.Contents (Elt F) :=
  (win0_3.blk (0 : Fin 1)).view.read (Elt F) (m ((c : Thread nD τ).loc main_arg3))

/-- The one index of a scale. -/
def one : S1.Idx := Shape.Idx.first (s := S1) (by decide)

/-- The product of device `c`, and its result: the stage, widened. -/
def yAt (c : Dev nD) : Vec F S256x2048 .bf16 := k0_pay1 (axAt m c one) (awAt m c one) (xAt m c) (wAt m c)
def outAt (c : Dev nD) : (cc0_stg4_0 : Ref sig .tc).ty.Contents (Elt F) := k0_pay2 (stageAt (yAt m) c)

theorem zeros₂ : (![0, 0] : Fin 2 → Nat) = fun _ => 0 := funext fun a => by fin_cases a <;> rfl
theorem zeros₁ : (![0] : Fin 1 → Nat) = fun _ => 0 := funext fun a => by fin_cases a; rfl

theorem read_x (f : (cc0_stg0_0 : Ref sig .tc).ty.Contents (Elt F)) : (xM : Memref sig .tc .vmem S256x4096 .fp8e4m3).view.readAt (Elt F) xR.toLoadRect f = f :=
  Memref.readAt_unit_zero (Elt F) cc0_stg0_0 zeros₂ _ f
theorem read_w (f : (cc0_stg1_0 : Ref sig .tc).ty.Contents (Elt F)) : (wM : Memref sig .tc .vmem S4096x2048 .fp8e5m2).view.readAt (Elt F) wR.toLoadRect f = f :=
  Memref.readAt_unit_zero (Elt F) cc0_stg1_0 zeros₂ _ f
theorem read_ax (f : (cc0_stg2_0 : Ref sig .tc).ty.Contents (Elt F)) : (axM : Memref sig .tc .smem S1 .f32).view.readAt (Elt F) aR.toLoadRect f = f :=
  Memref.readAt_unit_zero (Elt F) cc0_stg2_0 zeros₁ _ f
theorem read_aw (f : (cc0_stg3_0 : Ref sig .tc).ty.Contents (Elt F)) : (awM : Memref sig .tc .smem S1 .f32).view.readAt (Elt F) aR.toLoadRect f = f :=
  Memref.readAt_unit_zero (Elt F) cc0_stg3_0 zeros₁ _ f
theorem read_s (f : (cc0_scratch1 : Ref sig .tc).ty.Contents (Elt F)) : (sM : Memref sig .tc .vmem S4096x128 .bf16).view.readAt (Elt F) sR.toLoadRect f = f :=
  Memref.readAt_unit_zero (Elt F) cc0_scratch1 zeros₂ _ f
theorem write_y (f w : (cc0_scratch0 : Ref sig .tc).ty.Contents (Elt F)) :
    ((yM : Memref sig .tc .vmem S256x2048 .bf16).access yR : View sig .tc _ _ _).write (Elt F) f w Finset.univ = w :=
  Memref.write_access_unit_zero_univ (Elt F) cc0_scratch0 zeros₂ _ f w
theorem write_o (f w : (cc0_stg4_0 : Ref sig .tc).ty.Contents (Elt F)) :
    ((oM : Memref sig .tc .vmem S4096x128 .f32).access sR : View sig .tc _ _ _).write (Elt F) f w Finset.univ = w :=
  Memref.write_access_unit_zero_univ (Elt F) cc0_stg4_0 zeros₂ _ f w

/-! ## The pipeline's proof data -/

/-- What a device starts from: the records, its places, the tokens it pays with, its launch credits, the levels. -/
def start (c : Dev nD) : sProp 𝕄 :=
  iprop((∃ K, records (yAt m) K ∗ places c ∗ payToks c) ∗ cred (tallyAt (barCell c) () 15)
    ∗ (bigSep Finset.univ fun r : Fin 15 => cred (tallyAt (recvCell c r) () N)) ∗ levAts L lv)
/-- The two scratch buffers, holding anything. -/
def scratch (c : Dev nD) : sProp 𝕄 := iprop((∃ f, yLoc c ↦{fullShare} f) ∗ (∃ f, sLoc c ↦{fullShare} f))
def Φ₀ (c : Dev nD) : sProp 𝕄 := iprop(start m c ∗ scratch c)
/-- After the body: the scratch buffers and every semaphore of the device at zero. -/
def Φ₁ (c : Dev nD) : sProp 𝕄 := iprop(scratch c ∗ bigSep Finset.univ fun k : Cel => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => wAt m c
    | ⟨2, _⟩ => axAt m c
    | ⟨3, _⟩ => awAt m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

/-- The whole buffer `b` of device `c` at `X`. -/
abbrev hold (c : Dev nD) (b : Ref sig .tc) (X : b.ty.Contents (Elt F)) : sProp (MT nD τ sig Unit (Elt F) ℕ UU ℕ) :=
  ((c : Thread nD τ).loc b) ↦{fullShare} X

/-- The last part of the body, from the stage complete. -/
theorem sound_finish (y : Dev nD → Vec F S256x2048 .bf16) (K : Dev nD × Cel → ℕ) (c : Dev nD) (g : (cc0_stg4_0 : Ref sig .tc).ty.Contents (Elt F))
    (Q : PUnit → sProp 𝕄) :
    iprop(records y K ∗ (∃ W, owes (c : Thread nD τ) 0 W) ∗ hold c cc0_scratch1 (stageAt y c) ∗ hold c cc0_stg4_0 g
        ∗ bigSep Finset.univ fun r : Fin 15 => iprop(cred (tallyAt (sendCell c r) () N) ∗ atPos ER (sendCell c r) 0 ∅ 0))
      ⊢ iprop((((∃ W, owes (c : Thread nD τ) 0 W) ∗ hold c cc0_scratch1 (stageAt y c) ∗ hold c cc0_stg4_0 (k0_pay2 (stageAt y c))
            ∗ bigSep Finset.univ fun r : Fin 15 => iprop(semVal (sendCell c r) 0 ∗ colPts y c (ahead r c))) -∗ Q ⟨⟩)
          -∗ wpc c (finish c) Q) := by
  unfold finish
  iintro ⟨#HR, HO, Hs, Ho, Hd⟩ Hk
  iapply (wp_load 𝒱₀ (c : Thread nD τ) none Set.univ (m := sM) (Finset.subset_univ _)) $$ Hs; iintro Hs
  rw [read_s]
  iapply (wp_load 𝒱₀ (c : Thread nD τ) none Set.univ (m := oM) (Finset.subset_univ _)) $$ Ho; iintro Ho
  iapply (wp_store 𝒱₀ (c : Thread nD τ) none Set.univ (m := oM) (r := sR) (Mk := Finset.univ) (Finset.subset_univ _)) $$ Ho; iintro Ho
  rw [write_o]
  iapply (run_hops c (doneOp c) (records y K) 0 (fun _ => 0) _ _ (fun r S W k Q => done_step y K c r S W k Q) (.ret ⟨⟩) Q) $$ [HO Hd]
  · isplitr; · iexact HR
    isplitl [HO]; · rw [Finset.sum_const_zero, add_zero]; iexact HO
    iexact Hd
  iintro ⟨HO, Hd⟩
  unfold wpc; rw [wp_ret]; imodintro
  iapply Hk
  isplitl [HO]; · iexact HO
  isplitl [Hs]; · iexact Hs
  isplitl [Ho] <;> iassumption

/-- The wait for the local copy. -/
theorem copied_step (y : Dev nD → Vec F S256x2048 .bf16) (K : Dev nD × Cel → ℕ) (c : Dev nD) (W : Waits sig Unit) (k : Code F) (Q : PUnit → sProp 𝕄) :
    iprop(records y K ∗ owes (c : Thread nD τ) 0 W ∗ cred (tallyAt (copyCell c) () N) ∗ atPos ER (copyCell c) 0 ∅ 0)
      ⊢ iprop((((∃ W, owes (c : Thread nD τ) 0 W) ∗ semVal (copyCell c) 0 ∗ rowPts c c (stageAt y c) ∗ colPts y c c) -∗ wpc c k Q)
          -∗ wpc c (.op (copiedOp c) fun _ => k) Q) := by
  rw [← pay_copy y c 0, ← role_copy]
  exact wait_step y K c copyS kCopy rfl (by rw [role_copy]; rfl) (by rw [role_copy]; rfl) (op := copiedOp c)
    (n := (ownRows c).view.dmaCredit) rfl (by unfold copiedOp; exact wpE_waitDma2_eq 𝒱₀ (c : Thread nD τ) none Set.univ) W k Q

/-- What a device holds of the exchange once past its barrier. -/
def dealt (y : Dev nD → Vec F S256x2048 .bf16) (c : Dev nD) : sProp 𝕄 :=
  iprop((∃ f, rowPts c c f) ∗ (bigSep Finset.univ fun r : Fin 15 => iprop(∃ f, rowPts (ahead r c) c f))
    ∗ (bigSep Finset.univ fun r : Fin 15 => dutyTok ER (sendCell c r) 0 0)
    ∗ (bigSep Finset.univ fun r : Fin 15 => dutyTok ER (recvCell (ahead r c) r) 0 0)
    ∗ dutyTok ER (copyCell c) 0 0
    ∗ (bigSep Finset.univ fun r : Fin 15 => atPos ER (sendCell c r) 0 ∅ 0)
    ∗ (bigSep Finset.univ fun r : Fin 15 => atPos ER (recvCell c r) 0 ∅ 0)
    ∗ atPos ER (copyCell c) 0 ∅ 0
    ∗ (bigSep Finset.univ fun r : Fin 15 => cred (tallyAt (recvCell c r) () N)))

/-- And what it has at the end. -/
def settled (y : Dev nD → Vec F S256x2048 .bf16) (c : Dev nD) : sProp 𝕄 :=
  iprop(hold c cc0_scratch0 (y c) ∗ hold c cc0_scratch1 (stageAt y c)
    ∗ (bigSep Finset.univ fun r : Fin 15 => semVal (sendCell c r) 0)
    ∗ (bigSep Finset.univ fun r : Fin 15 => semVal (recvCell c r) 0)
    ∗ semVal (copyCell c) 0)

set_option maxHeartbeats 800000 in
/-- The exchange of the blocks of `y c`, from the product stored to the result. -/
theorem sound_blocks (y : Dev nD → Vec F S256x2048 .bf16) (K : Dev nD × Cel → ℕ) (c : Dev nD) (g : (cc0_stg4_0 : Ref sig .tc).ty.Contents (Elt F))
    (Q : PUnit → sProp 𝕄) :
    iprop(records y K ∗ (∃ W, owes (c : Thread nD τ) (O₁ c) W) ∗ hold c cc0_scratch0 (y c) ∗ hold c cc0_stg4_0 g ∗ dealt y c)
      ⊢ iprop((((∃ W, owes (c : Thread nD τ) 0 W) ∗ hold c cc0_stg4_0 (k0_pay2 (stageAt y c)) ∗ settled y c) -∗ Q ⟨⟩)
          -∗ wpc c (.op (copyOp c) fun _ => runOps (sendOp c) hops (.op (copiedOp c) fun _ => runOps (recvOp c) hops (finish c))) Q) := by
  unfold dealt
  iintro ⟨#HR, HO, Hy, Ho, ⟨%f, Hs⟩, Hrows, Hts, Htv, Htc, Has, Hav, Hac, Hcr⟩ Hk
  ihave Hy := (Entails.of_eq ((cols_split y c).trans (bigSep_others (others c) (others_bijective c) _))) $$ Hy
  icases Hy with ⟨Hyc, Hcols⟩
  -- the local copy
  iapply (copy_at y K c (k0_off2_eq c) (k0_off1_eq c) f _ Q) $$ [Hyc Hs Htc]
  · isplitr; · iexact HR
    isplitl [Hyc]; · iexact Hyc
    isplitl [Hs] <;> iassumption
  iintro Hcc
  -- the transfers
  iapply (run_hops c (sendOp c) (records y K) 0 (dueRecv c) _ _ (fun r S W k Q => send_step y K c r S W k Q) _ Q) $$ [HO Hcols Hrows Hts Htv]
  · isplitr; · iexact HR
    isplitl [HO]; · rw [zero_add]; iexact HO
    simp only [bigSep_sep']
    isplitl [Hcols]; · iexact Hcols
    isplitl [Hrows]; · iexact Hrows
    isplitl [Hts]; · iexact Hts
    iexact Htv
  iintro ⟨⟨%W, HO⟩, Hcs⟩
  -- the copy is done
  iapply (copied_step y K c W _ Q) $$ [HO Hcc Hac]
  · isplitr; · iexact HR
    isplitl [HO]; · iexact HO
    isplitl [Hcc]; · iexact Hcc
    iexact Hac
  iintro ⟨HO, Hzc, Hs, Hyc⟩
  -- every block has come
  iapply (run_hops c (recvOp c) (records y K) 0 (fun _ => 0) _ _ (fun r S W k Q => recv_step y K c r S W k Q) _ Q) $$ [HO Hcr Hav]
  · isplitr; · iexact HR
    isplitl [HO]; · rw [Finset.sum_const_zero, add_zero]; iexact HO
    simp only [bigSep_sep']
    isplitl [Hcr]; · iexact Hcr
    iexact Hav
  simp only [bigSep_sep']
  iintro ⟨HO, Hzv, Hrows⟩
  ihave Hs := (Entails.of_eq ((rows_split c (stageAt y c)).trans (bigSep_others (othersBack c) (othersBack_bijective c) _)).symm) $$ [Hs Hrows]
  · isplitl [Hs]; · iexact Hs
    iexact Hrows
  -- the result, and the sends are done
  iapply (sound_finish y K c g Q) $$ [HO Hs Ho Hcs Has]
  · isplitr; · iexact HR
    isplitl [HO]; · iexact HO
    isplitl [Hs]; · iexact Hs
    isplitl [Ho]; · iexact Ho
    simp only [bigSep_sep']
    isplitl [Hcs] <;> iassumption
  simp only [bigSep_sep']
  iintro ⟨HO, Hs, Ho, Hzs, Hcols⟩
  ihave Hy := (Entails.of_eq ((cols_split y c).trans (bigSep_others (others c) (others_bijective c) _)).symm) $$ [Hyc Hcols]
  · isplitl [Hyc]; · iexact Hyc
    iexact Hcols
  iapply Hk
  unfold settled
  isplitl [HO]; · iexact HO
  isplitl [Ho]; · iexact Ho
  isplitl [Hy]; · iexact Hy
  isplitl [Hs]; · iexact Hs
  isplitl [Hzs]; · iexact Hzs
  isplitl [Hzv] <;> iassumption

/-- A scale read from its window is the window's one entry. -/
theorem smem_bind (mm : Memref sig .tc .smem S1 .f32) (k : Elt F .f32 → Code F) :
    (smemLoad mm aR numel1_S1 rfl : Prog (TpuEff nD τ sig (Elt F) Λ₀ .tc) (Elt F .f32)).bind k
      = .op (.load mm aR.toLoadRect (View.loadsAt_rect (View.loads_smem_one (show EltTy.packing .f32 = 1 from rfl) numel1_S1))) fun v => k (v one) := by
  unfold smemLoad smemLoadElt; rfl

/-- The windows the body reads, at what they hold. -/
def inputs (c : Dev nD) : sProp 𝕄 :=
  iprop(hold c cc0_stg0_0 (xAt m c) ∗ hold c cc0_stg1_0 (wAt m c) ∗ hold c cc0_stg2_0 (axAt m c) ∗ hold c cc0_stg3_0 (awAt m c))

set_option maxHeartbeats 800000 in
/-- The body past its signals. -/
theorem sound_exchange (K : Dev nD × Cel → ℕ) (c : Dev nD) (f : (cc0_scratch0 : Ref sig .tc).ty.Contents (Elt F))
    (fs : Vec F S4096x128 .bf16) (g : (cc0_stg4_0 : Ref sig .tc).ty.Contents (Elt F)) (Q : PUnit → sProp 𝕄) :
    iprop(records (yAt m) K ∗ (∃ W, owes (c : Thread nD τ) (O₁ c) W) ∗ levAts L lv ∗ places c
        ∗ cred (tallyAt (barCell c) () 15) ∗ (bigSep Finset.univ fun r : Fin 15 => cred (tallyAt (recvCell c r) () N))
        ∗ (bigSep Finset.univ fun r : Fin 15 => dutyTok ER (sendCell c r) 0 0)
        ∗ (bigSep Finset.univ fun r : Fin 15 => dutyTok ER (recvCell (ahead r c) r) 0 0) ∗ dutyTok ER (copyCell c) 0 0
        ∗ hold c cc0_scratch0 f ∗ rowPts c c fs ∗ inputs m c ∗ hold c cc0_stg4_0 g)
      ⊢ iprop((((∃ W, owes (c : Thread nD τ) 0 W) ∗ inputs m c ∗ hold c cc0_stg4_0 (outAt m c) ∗ Φ₁ c) -∗ Q ⟨⟩)
          -∗ wpc c (exchange c) Q) := by
  unfold places inputs exchange
  rw [bigSep_cel]
  iintro ⟨#HR, ⟨%W, HO⟩, #Hlev, ⟨Hab, Has, Hav, Hac, Hai, Haj⟩, Hcb, Hcr, Hts, Htv, Htc, Hy, Hs, ⟨Hx, Hw, Hax, Haw⟩, Ho⟩ Hk
  ihave Hb := (rec_at (yAt m) K c kBar) $$ HR
  icases Hb with ⟨#HI, -⟩
  -- every device is past its signals
  iapply (Rounds.wp_wait_rest_token 𝒱₀ ER (sched (yAt m)) (c : Thread nD τ) none (κ := K (c, kBar))
      (wpE_semWait_eq 𝒱₀ (c : Thread nD τ) none Set.univ) (Set.mem_univ _) () (O := O₁ c) (W := W) (R := 0) (m := 0) (T := ∅)
      (by rw [expect_bar])) $$ [Hcb HO Hab]
  · isplitr; · iexact HI
    isplitl [Hcb]; · iexact Hcb
    isplitl [HO]; · iexact HO
    isplitr; · iapply (mayWait_bar c); iexact Hlev
    iexact Hab
  iintro ⟨HO, Hab, -, Hrows⟩
  ihave Hrows := (Entails.of_eq ((rest_bar (yAt m) c).trans (bar_rows c))) $$ Hrows
  imod (Rounds.cell_close ER (sched (yAt m)) (Set.mem_univ (K (c, kBar))) (fun h => h) (R := 0 + 1) (duties_later (yAt m) (barCell c))) $$ [Hab] with Hzb
  · isplitr; · iexact HI
    iexact Hab
  imod (idle_close (yAt m) K c idleA kIdleA rfl role_idleA) $$ [Hai] with Hza
  · isplitr; · iexact HR
    iexact Hai
  imod (idle_close (yAt m) K c idleB kIdleB rfl role_idleB) $$ [Haj] with Hzj
  · isplitr; · iexact HR
    iexact Haj
  -- the product
  rw [smem_bind]
  iapply (wp_load 𝒱₀ (c : Thread nD τ) none Set.univ (m := axM) (Finset.subset_univ _)) $$ Hax; iintro Hax
  rw [read_ax, smem_bind]
  iapply (wp_load 𝒱₀ (c : Thread nD τ) none Set.univ (m := awM) (Finset.subset_univ _)) $$ Haw; iintro Haw
  rw [read_aw]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := yM) (Finset.subset_univ _)) $$ Hy; iintro Hy
  iapply (wp_store 𝒱₀ (c : Thread nD τ) none Set.univ (m := yM) (r := yR) (Mk := Finset.univ) (Finset.subset_univ _)) $$ Hy; iintro Hy
  rw [write_y]
  -- the blocks
  iapply (sound_blocks (yAt m) K c g Q) $$ [HO Hy Ho Hs Hrows Hts Htv Htc Has Hav Hac Hcr]
  · isplitr; · iexact HR
    isplitl [HO]; · iexists _; iexact HO
    isplitl [Hy]; · iexact Hy
    isplitl [Ho]; · iexact Ho
    unfold dealt
    isplitl [Hs]; · iexists fs; iexact Hs
    isplitl [Hrows]; · iexact Hrows
    isplitl [Hts]; · iexact Hts
    isplitl [Htv]; · iexact Htv
    isplitl [Htc]; · iexact Htc
    isplitl [Has]; · iexact Has
    isplitl [Hav]; · iexact Hav
    isplitl [Hac]; · iexact Hac
    iexact Hcr
  unfold settled
  iintro ⟨HO, Ho, Hy, Hs, Hzs, Hzv, Hzc⟩
  iapply Hk
  isplitl [HO]; · iexact HO
  isplitl [Hx Hw Hax Haw]
  · isplitl [Hx]; · iexact Hx
    isplitl [Hw]; · iexact Hw
    isplitl [Hax] <;> iassumption
  isplitl [Ho]; · iexact Ho
  unfold Φ₁ scratch
  rw [bigSep_cel]
  isplitl [Hy Hs]
  · isplitl [Hy]
    · iexists (yAt m c); iexact Hy
    · iexists (stageAt (yAt m) c); iexact Hs
  isplitl [Hzb]; · iexact Hzb
  isplitl [Hzs]; · iexact Hzs
  isplitl [Hzv]; · iexact Hzv
  isplitl [Hzc]; · iexact Hzc
  isplitl [Hza]; · iexact Hza
  iexact Hzj

/-- The printed body. -/
abbrev printed : Code F :=
  cc0_body (F := F) xM (Memref.isWhole_whole _) wM (Memref.isWhole_whole _) axM (Memref.isWhole_whole _) awM (Memref.isWhole_whole _)
    oM (Memref.isWhole_whole _) yM (Memref.isWhole_whole _) sM (Memref.isWhole_whole _) cc0_scratch2 cc0_scratch3 cc0_scratch4

/-- Rows that hold something. -/
theorem rows_any (c : Dev nD) (fs : Vec F S4096x128 .bf16) :
    (bigSep Finset.univ fun r : Fin 15 => (rowPts c (others c (.inr r)) fs : sProp 𝕄))
      ⊢ bigSep Finset.univ fun r : Fin 15 => iprop(∃ f, rowPts c (ahead r c) f) :=
  bigSep_mono fun r _ => by
    show (rowPts c (ahead r c) fs : sProp 𝕄) ⊢ iprop(∃ f, rowPts c (ahead r c) f)
    iintro H; iexists fs; iexact H

/-- The whole body of one device, from its start to its semaphores at zero. -/
theorem sound_body (c : Dev nD) (W : Waits sig Unit) (g : (cc0_stg4_0 : Ref sig .tc).ty.Contents (Elt F)) (Q : PUnit → sProp 𝕄) :
    iprop(Φ₀ m c ∗ owes (c : Thread nD τ) (O₀ c) W ∗ inputs m c ∗ hold c cc0_stg4_0 g)
      ⊢ iprop((((∃ W, owes (c : Thread nD τ) 0 W) ∗ inputs m c ∗ hold c cc0_stg4_0 (outAt m c) ∗ Φ₁ c) -∗ Q ⟨⟩)
          -∗ wpc c printed Q) := by
  unfold printed Φ₀ start scratch payToks
  rw [body_eq]
  unfold wpc
  rw [wp_deviceId]
  iintro ⟨⟨⟨⟨%K, #HR, Hp, ⟨Htb, Hts, Htv, Htc⟩⟩, Hcb, Hcr, #Hlev⟩, ⟨⟨%f, Hy⟩, ⟨%fs, Hs⟩⟩⟩, HO, Hin, Ho⟩ Hk
  ihave Hs := (Entails.of_eq ((rows_split c fs).trans (bigSep_others (others c) (others_bijective c) _))) $$ Hs
  icases Hs with ⟨Hs, Hrows⟩
  ihave Hrows := (rows_any c fs) $$ Hrows
  iapply (run_hops c (signalOp c) (records (yAt m) K) (O₁ c) (dueBar c) _ _ (fun r S W k Q => signal_step (yAt m) K c r S W k Q) (exchange c) Q)
    $$ [HO Htb Hrows]
  · isplitr; · iexact HR
    isplitl [HO]; · iexists W; iexact HO
    simp only [bigSep_sep']
    isplitl [Htb]; · iexact Htb
    iexact Hrows
  iintro ⟨HO, -⟩
  iapply (sound_exchange m K c f fs g Q) $$ [HO Hp Hcb Hcr Hts Htv Htc Hy Hs Hin Ho]
  · isplitr; · iexact HR
    isplitl [HO]; · iexact HO
    isplitr; · iexact Hlev
    isplitl [Hp]; · iexact Hp
    isplitl [Hcb]; · iexact Hcb
    isplitl [Hcr]; · iexact Hcr
    isplitl [Hts]; · iexact Hts
    isplitl [Htv]; · iexact Htv
    isplitl [Htc]; · iexact Htc
    isplitl [Hy]; · iexact Hy
    isplitl [Hs]; · iexact Hs
    isplitl [Hin]; · iexact Hin
    iexact Ho
  iexact Hk

/-! ## The obligation -/

theorem before_x (c : Dev nD) (t : Fin cfg0.N) (d) : (dats m ρ 0 c).before (0 : Fin 5) t d = xAt m c := by
  rw [fin_N0 t]; unfold Dat.before; rw [if_pos (fetch0_0 _)]; rfl
theorem before_w (c : Dev nD) (t : Fin cfg0.N) (d) : (dats m ρ 0 c).before (1 : Fin 5) t d = wAt m c := by
  rw [fin_N0 t]; unfold Dat.before; rw [if_pos (fetch0_1 _)]; rfl
theorem before_ax (c : Dev nD) (t : Fin cfg0.N) (d) : (dats m ρ 0 c).before (2 : Fin 5) t d = axAt m c := by
  rw [fin_N0 t]; unfold Dat.before; rw [if_pos (fetch0_2 _)]; rfl
theorem before_aw (c : Dev nD) (t : Fin cfg0.N) (d) : (dats m ρ 0 c).before (3 : Fin 5) t d = awAt m c := by
  rw [fin_N0 t]; unfold Dat.before; rw [if_pos (fetch0_3 _)]; rfl

/-- What the pipeline hands the body and what it wants back. -/
def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ c ∗ (dats m ρ 0 c).owesAt () t0_0.succ ∗ stg c cc0_stg0_0 (xAt m c) ∗ stg c cc0_stg1_0 (wAt m c)
    ∗ stg c cc0_stg2_0 (axAt m c) ∗ stg c cc0_stg3_0 (awAt m c) ∗ stg c cc0_stg4_0 (outAt m c))

theorem body_meets (c : Dev nD) : bodyPre m ρ c ⊢ wpc c printed fun _ => bodyPost m ρ c := by
  unfold bodyPre
  simp only [before_x, before_w, before_ax, before_aw]
  iintro ⟨HΦ, HO, ⟨%d0, %x, %hx, Hx⟩, ⟨%d1, %w, %hw, Hw⟩, ⟨%d2, %a, %ha, Ha⟩, ⟨%d3, %b, %hb, Hb⟩, ⟨%d, %g, -, Ho⟩⟩
  subst hx hw ha hb
  unfold Dat.owesAt Pipeline.owesWithin
  icases HO with ⟨%W, -, HO⟩
  rw [show (dats m ρ 0 c).owed t0_0.castSucc = O₀ c from rfl]
  iapply (sound_body m c W g (fun _ => bodyPost m ρ c)) $$ [HΦ HO Hx Hw Ha Hb Ho]
  · isplitl [HΦ]; · iexact HΦ
    isplitl [HO]; · iexact HO
    unfold inputs
    isplitr [Ho]
    · isplitl [Hx]; · iexact Hx
      isplitl [Hw]; · iexact Hw
      isplitl [Ha]; · iexact Ha
      iexact Hb
    · iexact Ho
  unfold inputs
  iintro ⟨⟨%W', HO⟩, ⟨Hx, Hw, Ha, Hb⟩, Ho, HΦ⟩
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 100000 in
/-- The body meets what the pipeline's launch asks of it. -/
theorem body_obligation (c : Dev nD) : BodyObligation (dats (F := F) m ρ 0 c) (defs₀ (F := F)) 𝒱₀ () Set.univ := fun t => by
  rw [fin_N0 t, bigSep_W0, bigSep_W0]
  simp only [owns_whole_eq]
  exact body_meets m ρ c

end Cert.Exchange

end
-- ==== Proof.Launch.lean ====
/-
The launch of all sixteen devices: the ghost state minted and dealt around the hops, the launch credits, and the run of
the whole program from any memory whose counters are zero.
-/
module

public import proofs.«01_k».proof.Proof.Device
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide +kernel

theorem kcell_injective : Function.Injective (kcell : Dev nD × Cel → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties minted on a device's cells: fifteen at the barrier, one at each send, each receive, and the copy. -/
abbrev Tok : Type := Fin 15 ⊕ Fin 15 ⊕ Fin 15 ⊕ Unit
def tokOf (cj : Dev nD × Tok) : GSem nD τ sig × ℕ × Fin 15 := match cj.2 with
  | .inl d => (barCell cj.1, 0, d)
  | .inr (.inl r) => (sendCell cj.1 r, 0, 0)
  | .inr (.inr (.inl r)) => (recvCell cj.1 r, 0, 0)
  | .inr (.inr (.inr ())) => (copyCell cj.1, 0, 0)
/-- The role and duty a token is told by. -/
def tokRole : Tok → Role × Fin 15
  | .inl d => (.bar, d)
  | .inr (.inl r) => (.send r, 0)
  | .inr (.inr (.inl r)) => (.recv r, 0)
  | .inr (.inr (.inr ())) => (.copy, 0)
theorem tokRole_injective : Function.Injective tokRole := by decide +kernel
theorem tokOf_role (cj : Dev nD × Tok) : (role (tokOf cj).1.2, (tokOf cj).2.2) = tokRole cj.2 := by
  obtain ⟨c, d | r | r | ⟨⟩⟩ := cj
  · exact congrArg (·, d) role_bar
  · exact congrArg (·, (0 : Fin 15)) (role_send r)
  · exact congrArg (·, (0 : Fin 15)) (role_recv r)
  · exact congrArg (·, (0 : Fin 15)) role_copy
theorem tokOf_dev (cj : Dev nD × Tok) : (tokOf cj).1.1.1 = cj.1 := by obtain ⟨c, d | r | r | ⟨⟩⟩ := cj <;> rfl

theorem tokOf_injective : Function.Injective tokOf := by
  intro a b h
  refine Prod.ext ?_ (tokRole_injective ?_)
  · rw [← tokOf_dev a, ← tokOf_dev b, h]
  · rw [← tokOf_role a, ← tokOf_role b, h]
def allToks : Finset (GSem nD τ sig × ℕ × Fin 15) := Finset.univ.map ⟨tokOf, tokOf_injective⟩

def u₀ : UU :=
  (initOf (Pipeline.cells cfgs cellOf_inj) (Pipeline.launchToks cfgs cellOf_inj), initOf allCells allToks)

/-- The duty tokens of a device's own cells. -/
def toks (c : Dev nD) : sProp 𝕄 :=
  iprop((bigSep Finset.univ fun r : Fin 15 => dutyTok ER (barCell c) 0 r)
    ∗ (bigSep Finset.univ fun r : Fin 15 => dutyTok ER (sendCell c r) 0 0)
    ∗ (bigSep Finset.univ fun r : Fin 15 => dutyTok ER (recvCell c r) 0 0)
    ∗ dutyTok ER (copyCell c) 0 0)

theorem bigSep_tok (Φ : Tok → sProp 𝕄) :
    bigSep Finset.univ Φ = iprop((bigSep Finset.univ fun r => Φ (.inl r)) ∗ (bigSep Finset.univ fun r => Φ (.inr (.inl r)))
      ∗ (bigSep Finset.univ fun r => Φ (.inr (.inr (.inl r)))) ∗ Φ (.inr (.inr (.inr ())))) := by
  rw [bigSep_univ_sum, bigSep_univ_sum, bigSep_univ_sum, bigSep_univ_of_subsingleton ()]; rfl

/-- A device's positions, and that its cells are at round 0. -/
def stand (c : Dev nD) : sProp 𝕄 :=
  iprop(places c ∗ bigSep Finset.univ fun k : Cel => reached ER (kcell (c, k)) 0)

/-- What the launch deals device `c`, -/
def G (c : Dev nD) : sProp 𝕄 :=
  iprop((bigSep Finset.univ fun k : Cel => roundState ER (sched (yAt m)) (kcell (c, k)) 0) ∗ stand c ∗ toks c)
/-- and what the global step makes of it. -/
def G' (c : Dev nD) : sProp 𝕄 := iprop(∃ K, records (yAt m) K ∗ places c ∗ payToks c)

theorem bigSep_cells (Φ : GSem nD τ sig → sProp 𝕄) :
    bigSep allCells Φ = bigSep Finset.univ fun c : Dev nD => bigSep Finset.univ fun k : Cel => Φ (kcell (c, k)) := by
  unfold allCells; rw [bigSep_map, bigSep_univ_prod]; rfl
theorem bigSep_toks : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_tok]; rfl

theorem fund : BI.own (ER (initOf allCells allToks)) ⊢ (|==> bigSep Finset.univ (G m) : sProp 𝕄) := by
  iintro HX
  imod (Rounds.fund ER (sched (yAt m)) allCells allToks) $$ HX with ⟨Hst, Hr, Hat, Htok⟩
  imodintro
  ihave Hst := (Entails.of_eq (bigSep_cells fun g => roundState ER (sched (yAt m)) g 0)) $$ Hst
  ihave Hat := (Entails.of_eq (bigSep_cells fun g => atPos ER g 0 ∅ 0)) $$ Hat
  ihave Hr := (Entails.of_eq (bigSep_cells fun g => reached ER g 0)) $$ Hr
  ihave Htok := (Entails.of_eq bigSep_toks) $$ Htok
  unfold G stand places; simp only [bigSep_sep']
  isplitl [Hst]; · iexact Hst
  isplitl [Hat Hr]
  · isplitl [Hat]; · iexact Hat
    iexact Hr
  iexact Htok

/-! ## The semaphores -/

theorem sems_eq (c : Dev nD) :
    iprop(unscopedSems0 c ∗ Pipeline.ownSems0 (Ix := Unit) (Name := ℕ) (U := UU) (Lvl := ℕ) (Val := Elt F) (τ := τ) osem c)
      = (bigSep Finset.univ fun k : Cel => semVal (kcell (c, k)) 0 : sProp 𝕄) := by
  rw [bigSep_univ_sum, bigSep_univ_of_subsingleton ()]
  unfold unscopedSems0
  rw [bigSep_eq_bigSepL_of_eq [SemLoc.reg barS] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cel => iprop(∃ κ : ℕ, cellInv ER (sched (yAt m)) κ (kcell (c, k)))) ∗ stand c ∗ toks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Cel => semVal (kcell (c, k)) 0) ∗ bigSep Finset.univ fun k : Cel => roundState ER (sched (yAt m)) (kcell (c, k)) 0)
      ⊢ (|={Set.univ}=> bigSep Finset.univ fun k : Cel => iprop(∃ κ : ℕ, cellInv ER (sched (yAt m)) κ (kcell (c, k))) : sProp 𝕄) from by
        rw [← bigSep_sep']
        exact (bigSep_mono fun k _ => (Rounds.body_intro ER (sched (yAt m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- A fact for each device and hop, counted from the device the hop goes to. -/
theorem bigSep_ahead (Φ : Dev nD → Fin 15 → sProp 𝕄) :
    (bigSep Finset.univ fun c : Dev nD => bigSep Finset.univ fun r : Fin 15 => Φ c r)
      = bigSep Finset.univ fun c : Dev nD => bigSep Finset.univ fun r : Fin 15 => Φ (ahead r c) r := by
  rw [bigSep_univ_comm, bigSep_univ_comm (fun (c : Dev nD) (r : Fin 15) => Φ (ahead r c) r)]
  exact bigSep_congr fun r _ => bigSep_univ_equiv (turn r) _

theorem toks_around : (bigSep Finset.univ fun c : Dev nD => (toks c : sProp 𝕄)) = bigSep Finset.univ fun c : Dev nD => payToks c := by
  unfold toks payToks
  simp only [bigSep_sep']
  rw [bigSep_ahead (fun c r => (dutyTok ER (barCell c) 0 r : sProp 𝕄)), bigSep_ahead (fun c r => (dutyTok ER (recvCell c r) 0 0 : sProp 𝕄))]

/-- Every device takes the records, which can be had any number of times. -/
theorem bigSep_share {R : sProp 𝕄} [BI.Persistent R] (Φ : Dev nD → sProp 𝕄) :
    iprop(R ∗ bigSep Finset.univ Φ) ⊢ bigSep Finset.univ fun c => iprop(R ∗ Φ c) := by
  rw [bigSep_sep']
  exact sep_mono_left (BI.bigSep_of_persistent Finset.univ R)

theorem regroup :
    (bigSep Finset.univ fun c : Dev nD => iprop((bigSep Finset.univ fun k : Cel => iprop(∃ κ : ℕ, cellInv ER (sched (yAt m)) κ (kcell (c, k)))) ∗ stand c ∗ toks c) : sProp 𝕄)
      ⊢ bigSep Finset.univ (G' m) := by
  unfold stand
  simp only [bigSep_sep']
  rw [← bigSep_univ_prod (fun ck : Dev nD × Cel => iprop(∃ κ : ℕ, cellInv ER (sched (yAt m)) κ (kcell ck))),
    ← bigSep_univ_prod (fun ck : Dev nD × Cel => (reached ER (kcell ck) 0 : sProp 𝕄)), toks_around]
  iintro ⟨HI, ⟨Hat, #HR⟩, Htok⟩
  ihave HK := (BI.bigSep_exists_pi Finset.univ (fun (ck : Dev nD × Cel) (κ : ℕ) => (cellInv ER (sched (yAt m)) κ (kcell ck) : sProp 𝕄))) $$ HI
  icases HK with ⟨%K, #HI⟩
  iapply ((bigSep_share (R := records (yAt m) K) fun c => iprop(places c ∗ payToks c)).trans (bigSep_mono fun c _ =>
    show iprop(records (yAt m) K ∗ places c ∗ payToks c) ⊢ G' m c from by unfold G'; iintro H; iexists K; iexact H))
  isplitr
  · unfold records; isplitl; · iexact HI
    iexact HR
  rw [bigSep_sep']
  isplitl [Hat] <;> iassumption

/-- The global step: the semaphores of every device become the cells of the protocol. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Over all devices, hop `r` owes a cell of each device once. -/
theorem sum_turn (r : Fin 15) (cell : Dev nD → GSem nD τ sig) (hc : Function.Injective cell) (n : ℕ) (c : Dev nD) :
    ∑ d : Dev nD, (tallyAt (cell (ahead r d)) () n : CellTallies nD τ sig Unit) (cell c) () = n := by
  rw [show ∑ d : Dev nD, (tallyAt (cell (ahead r d)) () n : CellTallies nD τ sig Unit) (cell c) ()
      = ∑ d : Dev nD, (tallyAt (cell d) () n : CellTallies nD τ sig Unit) (cell c) ()
      from Equiv.sum_comp (turn r) fun d => (tallyAt (cell d) () n : CellTallies nD τ sig Unit) (cell c) (),
    Finset.sum_eq_single c (fun d _ hd => by rw [tallyAt_apply]; exact if_neg fun h => hd (hc h.1).symm) (fun h => absurd (Finset.mem_univ c) h),
    tallyAt_apply]
  exact if_pos ⟨rfl, rfl⟩

theorem cell_injective (s : SemLoc sig) : Function.Injective fun c : Dev nD => (((c : Thread nD τ), s) : GSem nD τ sig) :=
  fun _ _ h => congrArg (fun g : GSem nD τ sig => g.1.1) h

theorem recvS_ne {r r' : Fin 15} (h : r' ≠ r) : (SemLoc.dma (recvS r) : SemLoc sig) ≠ .dma (recvS r') := fun e =>
  h (Role.recv.inj (by rw [← role_recv r', ← role_recv r, e]))
theorem bar_ne_recv (r : Fin 15) : (SemLoc.reg barS : SemLoc sig) ≠ .dma (recvS r) := nofun

theorem owed_bar (d c : Dev nD) : O₀ d (barCell c) () = ∑ r, dueBar d r (barCell c) () := by
  unfold O₀ O₁ dueRecv
  rw [Pi.add_apply, Finsupp.add_apply, sum_tally_apply, sum_tally_apply,
    Finset.sum_eq_zero fun r _ => by rw [tallyAt_ne_cell fun h => bar_ne_recv r (congrArg Prod.snd h), Finsupp.zero_apply], Nat.zero_add]
theorem owed_recv (d c : Dev nD) (r : Fin 15) : O₀ d (recvCell c r) () = dueRecv d r (recvCell c r) () := by
  unfold O₀ O₁ dueRecv dueBar
  rw [Pi.add_apply, Finsupp.add_apply, sum_tally_apply, sum_tally_apply,
    Finset.sum_eq_zero (f := fun i => (tallyAt (barCell (ahead i d)) () 1 : CellTallies nD τ sig Unit) (recvCell c r) ())
      fun i _ => by rw [tallyAt_ne_cell fun h => bar_ne_recv r (congrArg Prod.snd h).symm, Finsupp.zero_apply],
    Nat.add_zero]
  exact Finset.sum_eq_single r (fun i _ hi => by rw [tallyAt_ne_cell fun h => recvS_ne hi (congrArg Prod.snd h), Finsupp.zero_apply])
    fun h => absurd (Finset.mem_univ r) h

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  exact (Finset.sum_congr rfl fun r _ => sum_turn r barCell (cell_injective _) 1 c).trans rfl
theorem launch_recv (c : Dev nD) (r : Fin 15) :
    tallyOn (recvCell c r) (launchCredit (Pipeline.owing O₀) 0 (recvCell c r)) = (tallyAt (recvCell c r) () N : CellTallies nD τ sig Unit) := by
  unfold tallyAt; refine congrArg _ (Finsupp.ext fun u => ?_); cases u
  rw [Pipeline.launchCredit_owing, Finsupp.single_eq_same, Finset.sum_congr rfl fun d _ => owed_recv d c r]
  exact sum_turn r (fun c => recvCell c r) (cell_injective _) N c

/-- The receive semaphores, one for each hop. -/
def recvSems : Fin 15 ↪ SemLoc sig := ⟨fun r => .dma (recvS r), fun r r' h => by by_contra hn; exact recvS_ne hn h.symm⟩

theorem creds (c : Dev nD) :
    (Pipeline.launchCred O₀ c : sProp 𝕄)
      ⊢ iprop(cred (tallyAt (barCell c) () 15) ∗ bigSep Finset.univ fun r : Fin 15 => cred (tallyAt (recvCell c r) () N)) := by
  unfold Pipeline.launchCred
  rw [bigSep_univ_at _ (SemLoc.reg barS), launch_bar]
  refine sep_mono_right ?_
  have hsub : Finset.univ.map recvSems ⊆ Finset.univ.erase (SemLoc.reg barS : SemLoc sig) := fun s hs => by
    obtain ⟨r, -, rfl⟩ := Finset.mem_map.mp hs
    exact Finset.mem_erase.mpr ⟨(bar_ne_recv r).symm, Finset.mem_univ _⟩
  refine (bigSep_subset hsub).trans ?_
  rw [bigSep_map]
  exact bigSep_mono fun r _ => Entails.of_eq (congrArg cred (launch_recv c r))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [← sems_eq]
  iintro ⟨Hr, Hb, Ho⟩
  isplitl [Hb]; · iexact Hb
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide +kernel) _ (by
      rcases t with ⟨_ | _, ht⟩
      · exact Or.inl rfl
      · exact Or.inr rfl)

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the sixteen devices
    terminates, with each array at its computed contents and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Windows.lean ====
/-
A window of a kernel with no grid covers its whole array: reading the array through it changes
nothing, and every index of the array lies in it. Both programs' windows are of this kind.
-/
module

public import Idealize.ShloMosaic.Lib.Pipeline
public import Idealize.ShloMosaic.Lib.Pipeline.Value

@[expose] public section

noncomputable section

namespace Cert.Exchange

open Idealize.ShloMosaic

variable {sig : RefSig} {s : Shape} {e : EltTy} {cs : CoreSpace} (arr : Memref sig .tc .hbm s e) (isOut sync : Bool)
  (stage : Memref sig .tc (.core cs) ⟨s.rank, s.size⟩ e) (sem : DmaSem sig) (harr : arr.IsWhole) (hstage : stage.IsWhole)
  (t : Fin Pipeline.Grid.none.N)

/-- An index of the window's block is the same index of the array. -/
theorem whole_rect (j : s.Idx) : ((Pipeline.Window.whole arr isOut sync stage sem harr hstage).rect t).emb j = j := by
  funext a
  apply Fin.ext
  rw [Rect.emb_apply]
  show 0 * s.size a + 1 * (j a).val = (j a).val
  omega

theorem whole_emb (j : s.Idx) : ((Pipeline.Window.whole arr isOut sync stage sem harr hstage).blk t).view.emb j = arr.view.emb j :=
  congrArg arr.view.emb (whole_rect arr isOut sync stage sem harr hstage t j)

/-- So reading through it is reading the array. -/
theorem whole_read (Val : EltTy → Type) (f : arr.view.ty.Contents Val) :
    ((Pipeline.Window.whole arr isOut sync stage sem harr hstage).blk t).view.read Val f = arr.view.read Val f := by
  funext j
  rw [View.read_apply, View.read_apply]
  exact congrArg (fun i => _root_.cast (congrArg Val arr.view.elt_eq) (f i)) (whole_emb arr isOut sync stage sem harr hstage t j)

/-- Every index of the array lies in the window's block. -/
theorem whole_mem (j : s.Idx) : arr.view.emb j ∈ ((Pipeline.Window.whole arr isOut sync stage sem harr hstage).blk t).view.set := by
  rw [← whole_emb arr isOut sync stage sem harr hstage t j]
  exact View.emb_mem_set _ j

end Cert.Exchange

end
-- ==== Proof.Result.lean ====
/-
What the run leaves in each device's buffers, for any float values: the result holds the gathered blocks, cast back to
f32, and the arguments are as they were.
-/
module

public import proofs.«01_k».proof.Proof.Launch
public import proofs.«01_k».proof.Proof.Windows

@[expose] public section

noncomputable section

namespace Cert.Exchange

open Cert.KernelIdeal Cert.KernelIdeal.Gen

open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-! ## The staged blocks are the whole arguments -/

theorem xAt_eq (c : Dev nD) : xAt m c = m ((c : Thread nD τ).loc main_arg0) :=
  whole_read _ _ _ _ _ (Memref.isWhole_whole _) (hstage0_0 0) _ _ _
theorem wAt_eq (c : Dev nD) : wAt m c = m ((c : Thread nD τ).loc main_arg1) :=
  whole_read _ _ _ _ _ (Memref.isWhole_whole _) (hstage0_1 0) _ _ _
theorem axAt_eq (c : Dev nD) : axAt m c = m ((c : Thread nD τ).loc main_arg2) :=
  whole_read _ _ _ _ _ (Memref.isWhole_whole _) (hstage0_2 0) _ _ _
theorem awAt_eq (c : Dev nD) : awAt m c = m ((c : Thread nD τ).loc main_arg3) :=
  whole_read _ _ _ _ _ (Memref.isWhole_whole _) (hstage0_3 0) _ _ _

/-! ## The arrays after the run -/

theorem finalA_out (c : Dev nD) : finalA m ρ c 4 = outAt m c :=
  (dats m ρ 0 c).arrAt_eq_of_cover 4 (outAt m c)
    (fun t _ => (whole_read (Memref.whole main_v1) true false (stage0_4 0) (sem0_4 0) (Memref.isWhole_whole _) (hstage0_4 0) t
      (Elt F) (outAt m c)).symm)
    (fun i => ⟨⟨0, Nat.one_pos⟩, flush0_4 _, whole_mem _ _ _ _ _ (Memref.isWhole_whole _) (hstage0_4 0) _ i⟩)

/-- Every execution ends with each device's result at its gathered blocks, its arguments unchanged and every counter
    back at zero. -/
theorem run_values : θ_run defs (onTc (τ := τ) (main (F := F))) (s₀ m ρ) fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun _ h => ⟨fun c =>
    ⟨(h.1 c 4).trans (finalA_out m ρ c),
      (h.1 c 0).trans ((dats m ρ 0 c).arrAt_in 0 rfl _), (h.1 c 1).trans ((dats m ρ 0 c).arrAt_in 1 rfl _),
      (h.1 c 2).trans ((dats m ρ 0 c).arrAt_in 2 rfl _), (h.1 c 3).trans ((dats m ρ 0 c).arrAt_in 3 rfl _)⟩, h.2⟩)
    (run_main m ρ)

end Cert.Exchange

end
-- ==== Proof.Reference.lean ====
/-
The reference's run with its result named: one store of the whole block, whose value is read from the whole arguments,
so the result array is that value of the arguments.
-/
module

public import proofs.«01_k».proof.Proof.Gen.ReferenceIdeal.Value
public import proofs.«01_k».proof.Proof.Windows

@[expose] public section

noncomputable section

namespace Cert.Exchange.Ref

open Cert.ReferenceIdeal Cert.ReferenceIdeal.Gen Cert.ReferenceIdeal.Value

open Idealize.ShloMosaic
open Idealize.ShloMosaic.TcCoe
open Idealize.SL.Sem

variable {F : FTy → Type} [FloatOps F]

/-- The one index of a scale. -/
def one : S1.Idx := Shape.Idx.first (s := S1) (by decide)

/-- The result as a function of the activations, the weights and the two scales. -/
def product (x : Vec F S4096x4096 .fp8e4m3) (w : Vec F S4096x2048 .fp8e5m2) (sx sw : Vec F S1 .f32) : Vec F S4096x2048 .f32 :=
  k0_pay1 x w (sx one) (sw one)

theorem zeros₂ : (![0, 0] : Fin 2 → Nat) = fun _ => 0 := funext fun a => by fin_cases a <;> rfl

/-- The body's one store covers the block, its loads read whole blocks and each scalar load the one entry of its scale. -/
theorem out_eq (c : Dev nD) (a0 : Memref sig .tc .vmem S4096x4096 .fp8e4m3) (h0 : a0.IsWhole)
    (a1 : Memref sig .tc .vmem S4096x2048 .fp8e5m2) (h1 : a1.IsWhole) (a2 : Memref sig .tc .smem S1 .f32) (h2 : a2.IsWhole)
    (a3 : Memref sig .tc .smem S1 .f32) (h3 : a3.IsWhole) (a4 : Memref sig .tc .vmem S4096x2048 .f32) (h4 : a4.IsWhole)
    (x : Vec F S4096x4096 .fp8e4m3) (w : Vec F S4096x2048 .fp8e5m2) (sx sw : Vec F S1 .f32) :
    out0_A_4 c a0 h0 a1 h1 a2 h2 a3 h3 a4 h4 x w sx sw = product x w sx sw := by
  unfold out0_A_4
  rw [View.read_writes_junk_eq_canon]
  show View.canon ([⟨Rect.unit ![0, 0] S4096x2048.size inb_S4096x2048_S4096x2048_0_0,
      k0_pay1
        (View.readAt (Elt F) a0.view (Rect.unit ![0, 0] S4096x4096.size inb_S4096x4096_S4096x4096_0_0).toLoadRect (h0.unread x))
        (View.readAt (Elt F) a1.view (Rect.unit ![0, 0] S4096x2048.size inb_S4096x2048_S4096x2048_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x2048 .f32)) = _
  rw [View.canon_unit_zero zeros₂, View.readAt_eq_ld, View.readAt_eq_ld, View.readAt_eq_ld, View.readAt_eq_ld,
    h0.read_unread, h1.read_unread, h2.read_unread, h3.read_unread, View.ld_unit_zero zeros₂, View.ld_unit_zero zeros₂]
  exact congrArg₂ (k0_pay1 x w) (congrArg sx (funext fun a => by match a with | ⟨0, _⟩ => rfl))
    (congrArg sw (funext fun a => by match a with | ⟨0, _⟩ => rfl))

variable (m : (ℓ : Loc nD τ sig) → Buf (Elt F) ℓ) (ρ : Dev nD → PrngReg)

theorem iblk0_eq (c : Dev nD) (t : Fin cfg0.N) : iblk m c 0 t = m ((c : Thread nD τ).loc main_arg0) :=
  whole_read _ _ _ _ _ (Memref.isWhole_whole _) (hstage0_0 0) _ _ _
theorem iblk1_eq (c : Dev nD) (t : Fin cfg0.N) : iblk m c 1 t = m ((c : Thread nD τ).loc main_arg1) :=
  whole_read _ _ _ _ _ (Memref.isWhole_whole _) (hstage0_1 0) _ _ _
theorem iblk2_eq (c : Dev nD) (t : Fin cfg0.N) : iblk m c 2 t = m ((c : Thread nD τ).loc main_arg2) :=
  whole_read _ _ _ _ _ (Memref.isWhole_whole _) (hstage0_2 0) _ _ _
theorem iblk3_eq (c : Dev nD) (t : Fin cfg0.N) : iblk m c 3 t = m ((c : Thread nD τ).loc main_arg3) :=
  whole_read _ _ _ _ _ (Memref.isWhole_whole _) (hstage0_3 0) _ _ _

/-- The result of the arguments in memory. -/
def result (c : Dev nD) : Vec F S4096x2048 .f32 :=
  product (m ((c : Thread nD τ).loc main_arg0)) (m ((c : Thread nD τ).loc main_arg1))
    (m ((c : Thread nD τ).loc main_arg2)) (m ((c : Thread nD τ).loc main_arg3))

theorem final_eq (c : Dev nD) : (dats m 0 c).arrAt 4 cfg0.N = result m c :=
  (dats m 0 c).arrAt_eq_of_cover 4 (result m c)
    (fun t _ => by
      rw [flushed4_A, out_eq, iblk0_eq, iblk1_eq, iblk2_eq, iblk3_eq]
      exact (whole_read (Memref.whole main_v0) true false (stage0_4 0) (sem0_4 0) (Memref.isWhole_whole _) (hstage0_4 0) t
        (Elt F) (result m c)).symm)
    (fun i => ⟨⟨0, Nat.one_pos⟩, flush0_4 _, whole_mem _ _ _ _ _ (Memref.isWhole_whole _) (hstage0_4 0) _ i⟩)

/-- Every execution ends with the result of the arguments, and the arguments unchanged. -/
theorem run_values : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c), (h c).2⟩) (run_blocks m ρ)

end Cert.Exchange.Ref

end
-- ==== Proof.Value.lean ====
/-
The equation, over the extended reals. Both programs' products are read at a row and a column as the same sum; the
row a device's stage holds at `i` is row `i` of the whole product, and its column is in the device's own block.
-/
module

public import proofs.«01_k».proof.Defs
public import proofs.«01_k».proof.Proof.Result
public import proofs.«01_k».proof.Proof.Reference
public import Idealize.ShloMosaic.Lib.MatmulPlain
public import Idealize.ShloMosaic.Lib.ValueIdx

@[expose] public section

noncomputable section

namespace Cert.Exchange

open Idealize.ShloMosaic
open Idealize.ShloMosaic.TcCoe
open Idealize.ShloMosaic.ValueIdx
open Cert.KernelIdeal (nD τ sig S256x4096 S4096x2048 S4096x128 S256x2048 S1)
open scoped BigOperators

/-- The inner product of row `r` of `x` and column `c` of `w`, scaled by both scales: what either program computes at
    one place, whatever number of rows it has in hand. -/
def entry {M : ℕ} (x : FVec Ideal ⟨2, ![M, 4096]⟩ .fp8e4m3) (w : FVec Ideal ⟨2, ![4096, 2048]⟩ .fp8e5m2)
    (a b : Ideal .f32) (r : Fin M) (c : Fin 2048) : Ideal .f32 :=
  FloatOps.mulf ((FloatOps.ofBits .f32 0 : Ideal .f32) + ∑ k : Fin 4096, x (ix2 r k) * w (ix2 k c) : Ideal .f32) (FloatOps.mulf a b)

theorem kernel_entry (a b : Elt Ideal .f32) (x : Vec Ideal S256x4096 .fp8e4m3) (w : Vec Ideal S4096x2048 .fp8e5m2) (r : Fin 256) (c : Fin 2048) :
    Cert.KernelIdeal.Gen.k0_pay1 a b x w (ix2 r c) = entry x w a b r c := by
  unfold Cert.KernelIdeal.Gen.k0_pay1
  simp only [shapeCast_self]
  exact congrArg (fun s => FloatOps.mulf (F := Ideal) s (FloatOps.mulf a b)) (Ideal.matmul_plain_apply none x w _ r c)

theorem reference_entry (a b : Elt Ideal .f32) (x : Vec Ideal Cert.ReferenceIdeal.S4096x4096 .fp8e4m3) (w : Vec Ideal S4096x2048 .fp8e5m2)
    (r : Fin 4096) (c : Fin 2048) : Cert.ReferenceIdeal.Gen.k0_pay1 x w a b (ix2 r c) = entry x w a b r c :=
  congrArg (fun s => FloatOps.mulf (F := Ideal) s (FloatOps.mulf a b)) (Ideal.matmul_plain_apply none x w _ r c)

/-- A device holding rows `256 d …` of `X` computes the entries of those rows. -/
theorem entry_rows (d : Fin 16) (X : Cert.ReferenceIdeal.S4096x4096.Idx → Ideal .fp8e4m3) (w : FVec Ideal S4096x2048 .fp8e5m2)
    (a b : Ideal .f32) (r : Fin 256) (R : Fin 4096) (hR : d.val * 256 + r.val = R.val) (c : Fin 2048) :
    entry (M := 256) (Layout.block ⟨2, ![256, 4096]⟩ ⟨2, ![4096, 4096]⟩ 0 16 d X) w a b r c = entry (M := 4096) X w a b R c := by
  have hx : ∀ k : Fin 4096, Layout.block ⟨2, ![256, 4096]⟩ ⟨2, ![4096, 4096]⟩ 0 16 d X (by decide) (ix2 r k) = X (ix2 R k) := fun k => by
    rw [Layout.block_apply]
    refine congrArg X (funext fun z => Fin.ext ?_)
    match z with
    | ⟨0, _⟩ => exact (Layout.idx_rows_val _ d (ix2 r k)).1.trans hR
    | ⟨1, _⟩ => exact (Layout.idx_rows_val _ d (ix2 r k)).2
  unfold entry
  simp only [hx]

/-- Each device's result is its block of columns of the reference's. -/
theorem out_block (m : (ℓ : Loc nD τ sig) → Buf (Elt Ideal) ℓ)
    (m' : (ℓ : Loc Cert.ReferenceIdeal.nD Cert.ReferenceIdeal.τ Cert.ReferenceIdeal.sig) → Buf (Elt Ideal) ℓ)
    (hx : ∀ d : Dev nD, m ((d : Thread nD τ).loc Cert.KernelIdeal.main_arg0) = Layout.block ⟨2, ![256, 4096]⟩ ⟨2, ![4096, 4096]⟩ 0 16 d (m' (((0 : Dev Cert.ReferenceIdeal.nD).tc : Thread Cert.ReferenceIdeal.nD Cert.ReferenceIdeal.τ).loc Cert.ReferenceIdeal.main_arg0)))
    (hw : ∀ d : Dev nD, m ((d : Thread nD τ).loc Cert.KernelIdeal.main_arg1) = m' (((0 : Dev Cert.ReferenceIdeal.nD).tc : Thread Cert.ReferenceIdeal.nD Cert.ReferenceIdeal.τ).loc Cert.ReferenceIdeal.main_arg1))
    (ha : ∀ d : Dev nD, m ((d : Thread nD τ).loc Cert.KernelIdeal.main_arg2) = m' (((0 : Dev Cert.ReferenceIdeal.nD).tc : Thread Cert.ReferenceIdeal.nD Cert.ReferenceIdeal.τ).loc Cert.ReferenceIdeal.main_arg2))
    (hb : ∀ d : Dev nD, m ((d : Thread nD τ).loc Cert.KernelIdeal.main_arg3) = m' (((0 : Dev Cert.ReferenceIdeal.nD).tc : Thread Cert.ReferenceIdeal.nD Cert.ReferenceIdeal.τ).loc Cert.ReferenceIdeal.main_arg3))
    (c : Dev nD) : outAt m c = Layout.block ⟨2, ![4096, 128]⟩ ⟨2, ![4096, 2048]⟩ 1 16 c (Ref.result m' 0) := by
  funext i
  have hi0 : (i 0).val < 4096 := (i 0).isLt
  have hi1 : (i 1).val < 128 := (i 1).isLt
  have hc : c.val < 16 := c.isLt
  -- the column of the whole product
  let C : Fin 2048 := ⟨128 * c.val + (i 1).val, by omega⟩
  have hl : srcIdx c i = ix2 ⟨(i 0).val % 256, Nat.mod_lt _ (by decide)⟩ C := by
    funext z
    match z with
    | ⟨0, _⟩ => rfl
    | ⟨1, _⟩ => rfl
  have hr : (by decide : Layout.Tiles ⟨2, ![4096, 128]⟩ ⟨2, ![4096, 2048]⟩ 1 16).idx c i = ix2 ⟨(i 0).val, hi0⟩ C := by
    funext z
    apply Fin.ext
    match z with
    | ⟨0, _⟩ => exact (Layout.idx_cols_val _ c i).1
    | ⟨1, _⟩ =>
      refine (Layout.idx_cols_val _ c i).2.trans ?_
      show c.val * 128 + (i 1).val = 128 * c.val + (i 1).val
      omega
  rw [Layout.block_apply, hr]
  show yAt m (rowDev i) (srcIdx c i) = _
  rw [hl]
  unfold yAt Ref.result Ref.product
  rw [xAt_eq, wAt_eq, axAt_eq, awAt_eq, hx, hw, ha, hb]
  rw [kernel_entry, reference_entry]
  exact entry_rows (rowDev i) _ _ _ _ _ _ (by show (i 0).val / 256 * 256 + (i 0).val % 256 = (i 0).val; omega) _

end Cert.Exchange

end
-- ==== Proof.Same.lean ====
/-
The kernel and its idealization are the same text printed twice: their bodies, and the tables of their functions, are
equal at any float values. A run of the one is a run of the other.
-/
module

public import proofs.«01_k».proof.Proof.Gen.Kernel
public import proofs.«01_k».proof.Proof.Gen.KernelIdeal

@[expose] public section

noncomputable section

namespace Cert.Exchange

open Idealize.ShloMosaic

variable {F : FTy → Type} [FloatOps F]

set_option maxHeartbeats 4000000 in
theorem body_same : Cert.Kernel.cc0_body (F := F) = Cert.KernelIdeal.cc0_body (F := F) := rfl

theorem bodies_same : Cert.Kernel.defs₀ (F := F) = Cert.KernelIdeal.defs₀ (F := F) := by
  refine congrArg Defs.onTc (funext fun l => funext fun x => ?_)
  match l, x with
  | 0, (t, s) =>
    show Cert.Kernel.cc0_body _ _ _ _ _ _ _ _ _ _ _ _ _ _ _ _ _ = Cert.KernelIdeal.cc0_body _ _ _ _ _ _ _ _ _ _ _ _ _ _ _ _ _
    rw [body_same]

theorem defs_same : Cert.Kernel.defs (F := F) = Cert.KernelIdeal.defs (F := F) := congrArg (Pipeline.defs _) bodies_same

theorem main_same : Cert.Kernel.main (F := F) = Cert.KernelIdeal.main (F := F) := rfl

end Cert.Exchange

end
-- ==== Proof.lean ====
/-
The proof of `Cert.Claim`: the kernel's frames and its value, from one run of the kernel's text over any float values;
the reference's frame and value; and the equation between the two results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem

/-- The kernel on machine words: it terminates without fault, keeps its arguments and leaves every counter at zero. The
    idealized program has the same text, so this is its run read at machine words. -/
theorem frame_kernel : Cert.quiescent_Kernel := fun m ρ _ => by
  rw [Cert.Exchange.defs_same, Cert.Exchange.main_same]
  exact (θ_run Cert.KernelIdeal.defs _ _).mono (fun _ h => ⟨fun c => (h.1 c).2, h.2⟩) (Cert.Exchange.run_values (F := Bits) m ρ)

/-- The same over the extended reals. -/
theorem frame_kernel_ideal : Cert.quiescent_KernelIdeal := fun m ρ _ =>
  (θ_run Cert.KernelIdeal.defs _ _).mono (fun _ h => ⟨fun c => (h.1 c).2, h.2⟩) (Cert.Exchange.run_values (F := Ideal) m ρ)

/-- The sixteen devices' results are the reference's, cut into blocks of columns. -/
theorem algebraic : Cert.algebraic_KernelIdeal_ReferenceIdeal := fun m ρ m' ρ' _ hm =>
  ⟨Cert.Exchange.Ref.result m' 0,
    (θ_run Cert.KernelIdeal.defs _ _).mono
      (fun _ h c => ⟨(h.1 c).1.trans (Cert.Exchange.out_block m m' (fun d => (hm d).1) (fun d => (hm d).2.1)
        (fun d => (hm d).2.2.1) (fun d => (hm d).2.2.2) c), (h.1 c).2⟩)
      (Cert.Exchange.run_values (F := Ideal) m ρ),
    (θ_run Cert.ReferenceIdeal.defs _ _).mono (fun _ h => h 0) (Cert.Exchange.Ref.run_values (F := Ideal) m' ρ')⟩

theorem claim : Cert.Claim :=
  ⟨Cert.Kernel.Gen.facts, Cert.KernelIdeal.Gen.facts, Cert.ReferenceIdeal.Gen.facts, frame_kernel, frame_kernel_ideal,
    fun m ρ _ => Cert.ReferenceIdeal.Gen.frame m ρ, trivial, algebraic⟩

end Cert.Proof

end
